-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sane_inputs [hPre_sane_inputs : Cert.Pre_sane_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_sane_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_sane_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_sane_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_sane_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_sane_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 = (fun _ => 1#1)
    ∧ (Cert.Pre_sane_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.1 = (fun _ => 1#1)
    ∧ (Cert.Pre_sane_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sane_inputs [hPre_sane_inputs : Cert.Pre_sane_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sane_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_sane_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_sane_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_sane_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_sane_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.1 = (fun _ => 1#1)
    ∧ (Cert.Pre_sane_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.1 = (fun _ => 1#1)
    ∧ (Cert.Pre_sane_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_sane_inputs [hKernelIdeal : Cert.KernelIdeal.Facts] [hPre_sane_inputs : Cert.Pre_sane_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sane_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sane_inputs [hReferenceIdeal : Cert.ReferenceIdeal.Facts] [hPre_sane_inputs : Cert.Pre_sane_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sane_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_sane_inputs [hKernelIdeal : Cert.KernelIdeal.Facts] [hReferenceIdeal : Cert.ReferenceIdeal.Facts] [hPre_sane_inputs : Cert.Pre_sane_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sane_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v454) = v0 c
          ∧ r.2.mem ((c.tc : Thread Cert.ReferenceIdeal.nD Cert.ReferenceIdeal.τ).loc Cert.ReferenceIdeal.main_v414) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sane_inputs : Cert.Pre_sane_inputs.Facts),
    quiescent_Kernel (hKernel := hKernel)
    ∧ quiescent_KernelIdeal (hKernelIdeal := hKernelIdeal)
    ∧ quiescent_KernelIdeal_pre_sane_inputs (hKernelIdeal := hKernelIdeal) (hPre_sane_inputs := hPre_sane_inputs)
    ∧ quiescent_ReferenceIdeal (hReferenceIdeal := hReferenceIdeal)
    ∧ quiescent_ReferenceIdeal_pre_sane_inputs (hReferenceIdeal := hReferenceIdeal) (hPre_sane_inputs := hPre_sane_inputs)
    ∧ preserves_Kernel_KernelIdeal
    ∧ algebraic_KernelIdeal_ReferenceIdeal_pre_sane_inputs (hKernelIdeal := hKernelIdeal) (hReferenceIdeal := hReferenceIdeal) (hPre_sane_inputs := hPre_sane_inputs)
-- ==== Pre_sane_inputs.lean ====
abbrev S8x900x91 : Shape := ⟨3, ![8, 900, 91]⟩
abbrev S8x900x4 : Shape := ⟨3, ![8, 900, 4]⟩
abbrev S8x128 : Shape := ⟨2, ![8, 128]⟩
abbrev S8x128x4 : Shape := ⟨3, ![8, 128, 4]⟩
abbrev S8x1x256x256 : Shape := ⟨4, ![8, 1, 256, 256]⟩
abbrev S1x128x4 : Shape := ⟨3, ![1, 128, 4]⟩
abbrev S1x128 : Shape := ⟨2, ![1, 128]⟩
abbrev S_ : Shape := ⟨0, ![]⟩
abbrev S8x900x2 : Shape := ⟨3, ![8, 900, 2]⟩
abbrev S1x128x2 : Shape := ⟨3, ![1, 128, 2]⟩

class Facts : Prop where
  slices_S8x128x4_S1x128x4_0_0_0 : S8x128x4.Slices ![0, 0, 0] S1x128x4
  slices_S8x128_S1x128_0_0 : S8x128.Slices ![0, 0] S1x128
  bcast_S_S8x900x4 : S_.BroadcastsInDim S8x900x4 (![] : Fin 0 → Fin S8x900x4.rank)
  slices_S8x900x4_S8x900x2_0_0_2 : S8x900x4.Slices ![0, 0, 2] S8x900x2
  bcast_S_S8x900x2 : S_.BroadcastsInDim S8x900x2 (![] : Fin 0 → Fin S8x900x2.rank)
  bcast_S_S1x128x4 : S_.BroadcastsInDim S1x128x4 (![] : Fin 0 → Fin S1x128x4.rank)
  slices_S1x128x4_S1x128x2_0_0_2 : S1x128x4.Slices ![0, 0, 2] S1x128x2
  bcast_S_S1x128x2 : S_.BroadcastsInDim S1x128x2 (![] : Fin 0 → Fin S1x128x2.rank)
  bcast_S_S1x128 : S_.BroadcastsInDim S1x128 (![] : Fin 0 → Fin S1x128.rank)
  bcast_S_S8x1x256x256 : S_.BroadcastsInDim S8x1x256x256 (![] : Fin 0 → Fin S8x1x256x256.rank)

variable [Facts]

def fn_part1 {F : FTy → Type} [FloatOps F] (main_arg4 : FVec F S8x1x256x256 .f32) (main_v4 : IVec S8x900x4 1) (main_v7 : IVec S8x900x2 1) (main_v10 : IVec S1x128x4 1) (main_v13 : IVec S1x128x2 1) (main_v15 : IVec S1x128 1) (main_v17 : IVec S1x128 1) : IVec S8x900x4 1 × IVec S8x900x2 1 × IVec S1x128x4 1 × IVec S1x128x2 1 × IVec S1x128 1 × IVec S1x128 1 × IVec S8x1x256x256 1 :=
  let main_cst_4 : FVec F S_ .f32 := constant S_ .f32 0x00000000#32
  let main_v18 : FVec F S8x1x256x256 .f32 := broadcastInDim S8x1x256x256 ![] bcast_S_S8x1x256x256 main_cst_4
  let main_v19 : IVec S8x1x256x256 1 := cmpf .oge main_arg4 main_v18
  (main_v4, main_v7, main_v10, main_v13, main_v15, main_v17, main_v19)

def fn {F : FTy → Type} [FloatOps F] (main_arg0 : FVec F S8x900x91 .f32) (main_arg1 : FVec F S8x900x4 .f32) (main_arg2 : IVec S8x128 32) (main_arg3 : FVec F S8x128x4 .f32) (main_arg4 : FVec F S8x1x256x256 .f32) : IVec S8x900x4 1 × IVec S8x900x2 1 × IVec S1x128x4 1 × IVec S1x128x2 1 × IVec S1x128 1 × IVec S1x128 1 × IVec S8x1x256x256 1 :=
  let main_v0 : FVec F S1x128x4 .f32 := (extractStridedSlice S1x128x4 ![0, 0, 0] · slices_S8x128x4_S1x128x4_0_0_0) main_arg3
  let main_v1 : IVec S1x128 32 := (extractStridedSlice S1x128 ![0, 0] · slices_S8x128_S1x128_0_0) main_arg2
  let main_v2 : FVec F S8x900x4 .f32 := Host.absf main_arg1
  let main_cst : FVec F S_ .f32 := constant S_ .f32 0x7F800000#32
  let main_v3 : FVec F S8x900x4 .f32 := broadcastInDim S8x900x4 ![] bcast_S_S8x900x4 main_cst
  let main_v4 : IVec S8x900x4 1 := cmpf .olt main_v2 main_v3
  let main_v5 : FVec F S8x900x2 .f32 := (extractStridedSlice S8x900x2 ![0, 0, 2] · slices_S8x900x4_S8x900x2_0_0_2) main_arg1
  let main_cst_0 : FVec F S_ .f32 := constant S_ .f32 0x00000000#32
  let main_v6 : FVec F S8x900x2 .f32 := broadcastInDim S8x900x2 ![] bcast_S_S8x900x2 main_cst_0
  let main_v7 : IVec S8x900x2 1 := cmpf .ogt main_v5 main_v6
  let main_v8 : FVec F S1x128x4 .f32 := Host.absf main_v0
  let main_cst_1 : FVec F S_ .f32 := constant S_ .f32 0x7F800000#32
  let main_v9 : FVec F S1x128x4 .f32 := broadcastInDim S1x128x4 ![] bcast_S_S1x128x4 main_cst_1
  let main_v10 : IVec S1x128x4 1 := cmpf .olt main_v8 main_v9
  let main_v11 : FVec F S1x128x2 .f32 := (extractStridedSlice S1x128x2 ![0, 0, 2] · slices_S1x128x4_S1x128x2_0_0_2) main_v0
  let main_cst_2 : FVec F S_ .f32 := constant S_ .f32 0x00000000#32
  let main_v12 : FVec F S1x128x2 .f32 := broadcastInDim S1x128x2 ![] bcast_S_S1x128x2 main_cst_2
  let main_v13 : IVec S1x128x2 1 := cmpf .oge main_v11 main_v12
  let main_c : IVec S_ 32 := constantI S_ 32 0#32
  let main_v14 : IVec S1x128 32 := broadcastInDim S1x128 ![] bcast_S_S1x128 main_c
  let main_v15 : IVec S1x128 1 := cmpi .sge main_v1 main_v14
  let main_c_3 : IVec S_ 32 := constantI S_ 32 91#32
  let main_v16 : IVec S1x128 32 := broadcastInDim S1x128 ![] bcast_S_S1x128 main_c_3
  let main_v17 : IVec S1x128 1 := cmpi .slt main_v1 main_v16
  fn_part1 (F := F) main_arg4 main_v4 main_v7 main_v10 main_v13 main_v15 main_v17
-- ==== Kernel.lean ====
abbrev S8x900x91 : Shape := ⟨3, ![8, 900, 91]⟩
abbrev S8x900x4 : Shape := ⟨3, ![8, 900, 4]⟩
abbrev S8x128 : Shape := ⟨2, ![8, 128]⟩
abbrev S8x128x4 : Shape := ⟨3, ![8, 128, 4]⟩
abbrev S8x1x256x256 : Shape := ⟨4, ![8, 1, 256, 256]⟩
abbrev S8x4x128 : Shape := ⟨3, ![8, 4, 128]⟩
abbrev S8x256x256 : Shape := ⟨3, ![8, 256, 256]⟩
abbrev S8x900x128 : Shape := ⟨3, ![8, 900, 128]⟩
abbrev S_ : Shape := ⟨0, ![]⟩
abbrev S1x900x91 : Shape := ⟨3, ![1, 900, 91]⟩
abbrev S1x900x4 : Shape := ⟨3, ![1, 900, 4]⟩
abbrev S1x256x256 : Shape := ⟨3, ![1, 256, 256]⟩
abbrev S1x900x128 : Shape := ⟨3, ![1, 900, 128]⟩
abbrev S900x91 : Shape := ⟨2, ![900, 91]⟩
abbrev S91x128 : Shape := ⟨2, ![91, 128]⟩
abbrev S1x128 : Shape := ⟨2, ![1, 128]⟩
abbrev S900x128 : Shape := ⟨2, ![900, 128]⟩
abbrev S900x4 : Shape := ⟨2, ![900, 4]⟩
abbrev S900x1 : Shape := ⟨2, ![900, 1]⟩
abbrev S1x1x128 : Shape := ⟨3, ![1, 1, 128]⟩
abbrev S256x256 : Shape := ⟨2, ![256, 256]⟩
abbrev S1 : Shape := ⟨1, ![1]⟩
abbrev S1x1x1 : Shape := ⟨3, ![1, 1, 1]⟩
abbrev S900x256 : Shape := ⟨2, ![900, 256]⟩
abbrev S900 : Shape := ⟨1, ![900]⟩
abbrev S128 : Shape := ⟨1, ![128]⟩

abbrev nBuf : Space → Nat
  | .hbm => 13
  | .vmem => 12
  | .smem => 0
  | _ => 0

abbrev bufTy : (tb : Table) → Fin (tcTables nBuf tb) → BufTy
  | .hbm, ⟨0, _⟩ => ⟨S8x900x91, .f32⟩
  | .hbm, ⟨1, _⟩ => ⟨S8x900x4, .f32⟩
  | .hbm, ⟨2, _⟩ => ⟨S8x128, .i32⟩
  | .hbm, ⟨3, _⟩ => ⟨S8x128x4, .f32⟩
  | .hbm, ⟨4, _⟩ => ⟨S8x1x256x256, .f32⟩
  | .hbm, ⟨5, _⟩ => ⟨S8x4x128, .f32⟩
  | .hbm, ⟨6, _⟩ => ⟨S8x256x256, .f32⟩
  | .hbm, ⟨7, _⟩ => ⟨S8x900x128, .i32⟩
  | .hbm, ⟨8, _⟩ => ⟨S8x900x128, .f32⟩
  | .hbm, ⟨9, _⟩ => ⟨S_, .i32⟩
  | .hbm, ⟨10, _⟩ => ⟨S8x900x128, .i32⟩
  | .hbm, ⟨11, _⟩ => ⟨S8x900x128, .i1⟩
  | .hbm, ⟨12, _⟩ => ⟨S8x900x128, .i1⟩
  | .local _ .vmem, ⟨0, _⟩ => ⟨S1x900x91, .f32⟩
  | .local _ .vmem, ⟨1, _⟩ => ⟨S1x900x91, .f32⟩
  | .local _ .vmem, ⟨2, _⟩ => ⟨S1x900x4, .f32⟩
  | .local _ .vmem, ⟨3, _⟩ => ⟨S1x900x4, .f32⟩
  | .local _ .vmem, ⟨4, _⟩ => ⟨S8x128, .i32⟩
  | .local _ .vmem, ⟨5, _⟩ => ⟨S8x4x128, .f32⟩
  | .local _ .vmem, ⟨6, _⟩ => ⟨S1x256x256, .f32⟩
  | .local _ .vmem, ⟨7, _⟩ => ⟨S1x256x256, .f32⟩
  | .local _ .vmem, ⟨8, _⟩ => ⟨S1x900x128, .i32⟩
  | .local _ .vmem, ⟨9, _⟩ => ⟨S1x900x128, .i32⟩
  | .local _ .vmem, ⟨10, _⟩ => ⟨S1x900x128, .f32⟩
  | .local _ .vmem, ⟨11, _⟩ => ⟨S1x900x128, .f32⟩
  | _, _ => ⟨S8x900x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2_0 : Ref sig .tc := ⟨.hbm, 7, rfl⟩
abbrev main_v0_1 : Ref sig .tc := ⟨.hbm, 8, rfl⟩
abbrev main_call0_c : Ref sig .tc := ⟨.hbm, 9, rfl⟩
abbrev main_call0_v3 : Ref sig .tc := ⟨.hbm, 10, rfl⟩
abbrev main_call0_v4 : Ref sig .tc := ⟨.hbm, 11, rfl⟩
abbrev main_v0_0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let arg0 : BitVec 32 := BitVec.ofNat 32 (i 0).val
  let v199 : Index := Scalar.indexCast arg0
  let c2_59 : Index := 2#32
  let c0_60 : Index := 0#32
  ![v199.toNat, 2, 0]
def k0_off2 (i : grid0.Coords) : Fin 3 → Nat :=
  let arg0 : BitVec 32 := BitVec.ofNat 32 (i 0).val
  let v202 : Index := Scalar.indexCast arg0
  let c3_61 : Index := 3#32
  let c0_62 : Index := 0#32
  ![v202.toNat, 3, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x900x91 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x900x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x900x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x900x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x900x91 : Shape := ⟨3, ![8, 900, 91]⟩
abbrev S8x900x4 : Shape := ⟨3, ![8, 900, 4]⟩
abbrev S8x128 : Shape := ⟨2, ![8, 128]⟩
abbrev S8x128x4 : Shape := ⟨3, ![8, 128, 4]⟩
abbrev S8x1x256x256 : Shape := ⟨4, ![8, 1, 256, 256]⟩
abbrev S7200x91 : Shape := ⟨2, ![7200, 91]⟩
abbrev S_ : Shape := ⟨0, ![]⟩
abbrev S7200x4 : Shape := ⟨2, ![7200, 4]⟩
abbrev S1024 : Shape := ⟨1, ![1024]⟩
abbrev S1024x4 : Shape := ⟨2, ![1024, 4]⟩
abbrev S1024x1 : Shape := ⟨2, ![1024, 1]⟩
abbrev S7200x1024 : Shape := ⟨2, ![7200, 1024]⟩
abbrev S7200x1x4 : Shape := ⟨3, ![7200, 1, 4]⟩
abbrev S1x1024x4 : Shape := ⟨3, ![1, 1024, 4]⟩
abbrev S7200x1024x4 : Shape := ⟨3, ![7200, 1024, 4]⟩
abbrev S7200x1 : Shape := ⟨2, ![7200, 1]⟩
abbrev S7200 : Shape := ⟨1, ![7200]⟩
abbrev S7200x2 : Shape := ⟨2, ![7200, 2]⟩
abbrev S7200x1x2 : Shape := ⟨3, ![7200, 1, 2]⟩
abbrev S1024x2 : Shape := ⟨2, ![1024, 2]⟩
abbrev S1x1024x2 : Shape := ⟨3, ![1, 1024, 2]⟩
abbrev S7200x1024x2 : Shape := ⟨3, ![7200, 1024, 2]⟩
abbrev S7200x1024x1 : Shape := ⟨3, ![7200, 1024, 1]⟩
abbrev S1x1024 : Shape := ⟨2, ![1, 1024]⟩
abbrev S8x1x65536 : Shape := ⟨3, ![8, 1, 65536]⟩
abbrev S8x1 : Shape := ⟨2, ![8, 1]⟩
abbrev S8x1x1x1 : Shape := ⟨4, ![8, 1, 1, 1]⟩
abbrev S8x900x1024 : Shape := ⟨3, ![8, 900, 1024]⟩
abbrev S8x900x128 : Shape := ⟨3, ![8, 900, 128]⟩
abbrev S8x900x1 : Shape := ⟨3, ![8, 900, 1]⟩
abbrev S8x900 : Shape := ⟨2, ![8, 900]⟩
abbrev S8x256x256 : Shape := ⟨3, ![8, 256, 256]⟩
abbrev S8 : Shape := ⟨1, ![8]⟩
abbrev S8x900x3 : Shape := ⟨3, ![8, 900, 3]⟩
abbrev S8x900x1x128 : Shape := ⟨4, ![8, 900, 1, 128]⟩
abbrev S8x128x1 : Shape := ⟨3, ![8, 128, 1]⟩
abbrev S8x128x900 : Shape := ⟨3, ![8, 128, 900]⟩
abbrev S8x128x6 : Shape := ⟨3, ![8, 128, 6]⟩
abbrev S6 : Shape := ⟨1, ![6]⟩
abbrev S1x1x6 : Shape := ⟨3, ![1, 1, 6]⟩
abbrev S8x1x128x6 : Shape := ⟨4, ![8, 1, 128, 6]⟩
abbrev S900 : Shape := ⟨1, ![900]⟩
abbrev S1x900x1x1 : Shape := ⟨4, ![1, 900, 1, 1]⟩
abbrev S8x900x128x6 : Shape := ⟨4, ![8, 900, 128, 6]⟩
abbrev S128 : Shape := ⟨1, ![128]⟩
abbrev S1x1x128 : Shape := ⟨3, ![1, 1, 128]⟩

abbrev nBuf : Space → Nat
  | .hbm => 635
  | .vmem => 0
  | .smem => 0
  | _ => 0

abbrev hbmTy0_0 (i : Nat) : BufTy := match i % 128 with
  | 0 => ⟨S8x900x91, .f32⟩
  | 1 => ⟨S8x900x4, .f32⟩
  | 2 => ⟨S8x128, .i32⟩
  | 3 => ⟨S8x128x4, .f32⟩
  | 4 => ⟨S8x1x256x256, .f32⟩
  | 5 => ⟨S7200x91, .f32⟩
  | 6 => ⟨S7200x91, .f32⟩
  | 7 => ⟨S7200x91, .f32⟩
  | 8 => ⟨S_, .f32⟩
  | 9 => ⟨S7200x91, .f32⟩
  | 10 => ⟨S7200x91, .f32⟩
  | 11 => ⟨S_, .f32⟩
  | 12 => ⟨S7200x91, .f32⟩
  | 13 => ⟨S7200x91, .f32⟩
  | 14 => ⟨S7200x4, .f32⟩
  | 15 => ⟨S1024, .i32⟩
  | 16 => ⟨S1024x4, .f32⟩
  | 17 => ⟨S_, .f32⟩
  | 18 => ⟨S7200x91, .f32⟩
  | 19 => ⟨S7200x91, .f32⟩
  | 20 => ⟨S_, .f32⟩
  | 21 => ⟨S7200x91, .f32⟩
  | 22 => ⟨S7200x91, .f32⟩
  | 23 => ⟨S_, .f32⟩
  | 24 => ⟨S7200x91, .f32⟩
  | 25 => ⟨S7200x91, .f32⟩
  | 26 => ⟨S_, .f32⟩
  | 27 => ⟨S7200x91, .f32⟩
  | 28 => ⟨S7200x91, .f32⟩
  | 29 => ⟨S7200x91, .f32⟩
  | 30 => ⟨S7200x91, .f32⟩
  | 31 => ⟨S7200x91, .f32⟩
  | 32 => ⟨S_, .f32⟩
  | 33 => ⟨S7200x91, .f32⟩
  | 34 => ⟨S7200x91, .f32⟩
  | 35 => ⟨S_, .f32⟩
  | 36 => ⟨S7200x91, .f32⟩
  | 37 => ⟨S7200x91, .f32⟩
  | 38 => ⟨S_, .f32⟩
  | 39 => ⟨S7200x91, .f32⟩
  | 40 => ⟨S7200x91, .f32⟩
  | 41 => ⟨S_, .f32⟩
  | 42 => ⟨S7200x91, .f32⟩
  | 43 => ⟨S7200x91, .f32⟩
  | 44 => ⟨S7200x91, .f32⟩
  | 45 => ⟨S7200x91, .f32⟩
  | 46 => ⟨S7200x91, .f32⟩
  | 47 => ⟨S_, .i32⟩
  | 48 => ⟨S1024, .i32⟩
  | 49 => ⟨S1024, .i1⟩
  | 50 => ⟨S_, .i32⟩
  | 51 => ⟨S1024, .i32⟩
  | 52 => ⟨S1024, .i32⟩
  | 53 => ⟨S1024, .i32⟩
  | 54 => ⟨S1024x1, .i32⟩
  | 55 => ⟨S7200x1024, .f32⟩
  | 56 => ⟨S_, .i32⟩
  | 57 => ⟨S1024, .i32⟩
  | 58 => ⟨S1024, .i1⟩
  | 59 => ⟨S_, .i32⟩
  | 60 => ⟨S1024, .i32⟩
  | 61 => ⟨S1024, .i32⟩
  | 62 => ⟨S1024, .i32⟩
  | 63 => ⟨S1024x1, .i32⟩
  | 64 => ⟨S7200x1024, .f32⟩
  | 65 => ⟨S7200x1024, .f32⟩
  | 66 => ⟨S7200x1x4, .f32⟩
  | 67 => ⟨S1x1024x4, .f32⟩
  | 68 => ⟨S7200x1024x4, .f32⟩
  | 69 => ⟨S7200x1024x4, .f32⟩
  | 70 => ⟨S7200x1024x4, .f32⟩
  | 71 => ⟨S7200x1024x4, .f32⟩
  | 72 => ⟨S_, .f32⟩
  | 73 => ⟨S7200x1024, .f32⟩
  | 74 => ⟨S7200x1, .f32⟩
  | 75 => ⟨S7200, .f32⟩
  | 76 => ⟨S7200x1, .f32⟩
  | 77 => ⟨S7200, .f32⟩
  | 78 => ⟨S7200x1, .f32⟩
  | 79 => ⟨S7200, .f32⟩
  | 80 => ⟨S7200x1, .f32⟩
  | 81 => ⟨S7200, .f32⟩
  | 82 => ⟨S_, .f32⟩
  | 83 => ⟨S7200, .f32⟩
  | 84 => ⟨S7200, .f32⟩
  | 85 => ⟨S7200, .f32⟩
  | 86 => ⟨S_, .f32⟩
  | 87 => ⟨S7200, .f32⟩
  | 88 => ⟨S7200, .f32⟩
  | 89 => ⟨S7200, .f32⟩
  | 90 => ⟨S_, .f32⟩
  | 91 => ⟨S7200, .f32⟩
  | 92 => ⟨S7200, .f32⟩
  | 93 => ⟨S7200, .f32⟩
  | 94 => ⟨S_, .f32⟩
  | 95 => ⟨S7200, .f32⟩
  | 96 => ⟨S7200, .f32⟩
  | 97 => ⟨S7200, .f32⟩
  | 98 => ⟨S7200x1, .f32⟩
  | 99 => ⟨S7200x1, .f32⟩
  | 100 => ⟨S7200x1, .f32⟩
  | 101 => ⟨S7200x1, .f32⟩
  | 102 => ⟨S7200x4, .f32⟩
  | 103 => ⟨S1024x1, .f32⟩
  | 104 => ⟨S1024, .f32⟩
  | 105 => ⟨S1024x1, .f32⟩
  | 106 => ⟨S1024, .f32⟩
  | 107 => ⟨S1024x1, .f32⟩
  | 108 => ⟨S1024, .f32⟩
  | 109 => ⟨S1024x1, .f32⟩
  | 110 => ⟨S1024, .f32⟩
  | 111 => ⟨S_, .f32⟩
  | 112 => ⟨S1024, .f32⟩
  | 113 => ⟨S1024, .f32⟩
  | 114 => ⟨S1024, .f32⟩
  | 115 => ⟨S_, .f32⟩
  | 116 => ⟨S1024, .f32⟩
  | 117 => ⟨S1024, .f32⟩
  | 118 => ⟨S1024, .f32⟩
  | 119 => ⟨S_, .f32⟩
  | 120 => ⟨S1024, .f32⟩
  | 121 => ⟨S1024, .f32⟩
  | 122 => ⟨S1024, .f32⟩
  | 123 => ⟨S_, .f32⟩
  | 124 => ⟨S1024, .f32⟩
  | 125 => ⟨S1024, .f32⟩
  | 126 => ⟨S1024, .f32⟩
  | 127 => ⟨S1024x1, .f32⟩
  | _ => ⟨S8x900x91, .f32⟩

abbrev hbmTy0_1 (i : Nat) : BufTy := match i % 128 with
  | 0 => ⟨S1024x1, .f32⟩
  | 1 => ⟨S1024x1, .f32⟩
  | 2 => ⟨S1024x1, .f32⟩
  | 3 => ⟨S1024x4, .f32⟩
  | 4 => ⟨S7200x1, .f32⟩
  | 5 => ⟨S7200, .f32⟩
  | 6 => ⟨S7200x1, .f32⟩
  | 7 => ⟨S7200, .f32⟩
  | 8 => ⟨S7200, .f32⟩
  | 9 => ⟨S7200x1, .f32⟩
  | 10 => ⟨S7200, .f32⟩
  | 11 => ⟨S7200x1, .f32⟩
  | 12 => ⟨S7200, .f32⟩
  | 13 => ⟨S7200, .f32⟩
  | 14 => ⟨S7200, .f32⟩
  | 15 => ⟨S1024x1, .f32⟩
  | 16 => ⟨S1024, .f32⟩
  | 17 => ⟨S1024x1, .f32⟩
  | 18 => ⟨S1024, .f32⟩
  | 19 => ⟨S1024, .f32⟩
  | 20 => ⟨S1024x1, .f32⟩
  | 21 => ⟨S1024, .f32⟩
  | 22 => ⟨S1024x1, .f32⟩
  | 23 => ⟨S1024, .f32⟩
  | 24 => ⟨S1024, .f32⟩
  | 25 => ⟨S1024, .f32⟩
  | 26 => ⟨S7200x2, .f32⟩
  | 27 => ⟨S7200x1x2, .f32⟩
  | 28 => ⟨S1024x2, .f32⟩
  | 29 => ⟨S1x1024x2, .f32⟩
  | 30 => ⟨S7200x1024x2, .f32⟩
  | 31 => ⟨S7200x1024x2, .f32⟩
  | 32 => ⟨S7200x1024x2, .f32⟩
  | 33 => ⟨S7200x2, .f32⟩
  | 34 => ⟨S7200x1x2, .f32⟩
  | 35 => ⟨S1024x2, .f32⟩
  | 36 => ⟨S1x1024x2, .f32⟩
  | 37 => ⟨S7200x1024x2, .f32⟩
  | 38 => ⟨S7200x1024x2, .f32⟩
  | 39 => ⟨S7200x1024x2, .f32⟩
  | 40 => ⟨S7200x1024x2, .f32⟩
  | 41 => ⟨S_, .f32⟩
  | 42 => ⟨S_, .f32⟩
  | 43 => ⟨S7200x1024x2, .f32⟩
  | 44 => ⟨S7200x1024x2, .f32⟩
  | 45 => ⟨S7200x1024x1, .f32⟩
  | 46 => ⟨S7200x1024, .f32⟩
  | 47 => ⟨S7200x1024x1, .f32⟩
  | 48 => ⟨S7200x1024, .f32⟩
  | 49 => ⟨S7200x1024, .f32⟩
  | 50 => ⟨S7200x1, .f32⟩
  | 51 => ⟨S1x1024, .f32⟩
  | 52 => ⟨S7200x1024, .f32⟩
  | 53 => ⟨S7200x1024, .f32⟩
  | 54 => ⟨S7200x1024, .f32⟩
  | 55 => ⟨S7200x1024, .f32⟩
  | 56 => ⟨S7200x1024, .f32⟩
  | 57 => ⟨S7200x2, .f32⟩
  | 58 => ⟨S7200x1x2, .f32⟩
  | 59 => ⟨S1024x2, .f32⟩
  | 60 => ⟨S1x1024x2, .f32⟩
  | 61 => ⟨S7200x1024x2, .f32⟩
  | 62 => ⟨S7200x1024x2, .f32⟩
  | 63 => ⟨S7200x1024x2, .f32⟩
  | 64 => ⟨S7200x2, .f32⟩
  | 65 => ⟨S7200x1x2, .f32⟩
  | 66 => ⟨S1024x2, .f32⟩
  | 67 => ⟨S1x1024x2, .f32⟩
  | 68 => ⟨S7200x1024x2, .f32⟩
  | 69 => ⟨S7200x1024x2, .f32⟩
  | 70 => ⟨S7200x1024x2, .f32⟩
  | 71 => ⟨S7200x1024x2, .f32⟩
  | 72 => ⟨S_, .f32⟩
  | 73 => ⟨S_, .f32⟩
  | 74 => ⟨S7200x1024x2, .f32⟩
  | 75 => ⟨S7200x1024x2, .f32⟩
  | 76 => ⟨S7200x1024x1, .f32⟩
  | 77 => ⟨S7200x1024, .f32⟩
  | 78 => ⟨S7200x1024x1, .f32⟩
  | 79 => ⟨S7200x1024, .f32⟩
  | 80 => ⟨S7200x1024, .f32⟩
  | 81 => ⟨S7200x1024, .f32⟩
  | 82 => ⟨S7200x1024, .f32⟩
  | 83 => ⟨S7200x1024, .f32⟩
  | 84 => ⟨S7200x1024, .f32⟩
  | 85 => ⟨S8x1x65536, .f32⟩
  | 86 => ⟨S_, .f32⟩
  | 87 => ⟨S8x1, .f32⟩
  | 88 => ⟨S8x1x1x1, .f32⟩
  | 89 => ⟨S_, .f32⟩
  | 90 => ⟨S8x1x1x1, .f32⟩
  | 91 => ⟨S8x1x1x1, .f32⟩
  | 92 => ⟨S8x1x256x256, .f32⟩
  | 93 => ⟨S8x1x256x256, .f32⟩
  | 94 => ⟨S8x900x1024, .f32⟩
  | 95 => ⟨S8x900x128, .f32⟩
  | 96 => ⟨S8x900x1024, .f32⟩
  | 97 => ⟨S8x900x128, .f32⟩
  | 98 => ⟨S8x900x1024, .f32⟩
  | 99 => ⟨S8x900x128, .f32⟩
  | 100 => ⟨S8x900x1, .f32⟩
  | 101 => ⟨S8x900, .f32⟩
  | 102 => ⟨S_, .f32⟩
  | 103 => ⟨S8x900, .f32⟩
  | 104 => ⟨S8x900, .f32⟩
  | 105 => ⟨S_, .f32⟩
  | 106 => ⟨S8x900, .f32⟩
  | 107 => ⟨S8x900, .f32⟩
  | 108 => ⟨S8x900x1, .f32⟩
  | 109 => ⟨S8x900, .f32⟩
  | 110 => ⟨S_, .f32⟩
  | 111 => ⟨S8x900, .f32⟩
  | 112 => ⟨S8x900, .f32⟩
  | 113 => ⟨S_, .f32⟩
  | 114 => ⟨S8x900, .f32⟩
  | 115 => ⟨S8x900, .f32⟩
  | 116 => ⟨S8x256x256, .f32⟩
  | 117 => ⟨S_, .f32⟩
  | 118 => ⟨S8x900, .f32⟩
  | 119 => ⟨S8x900, .f32⟩
  | 120 => ⟨S_, .f32⟩
  | 121 => ⟨S8x900, .f32⟩
  | 122 => ⟨S8x900, .f32⟩
  | 123 => ⟨S_, .f32⟩
  | 124 => ⟨S8x900, .f32⟩
  | 125 => ⟨S8x900, .f32⟩
  | 126 => ⟨S_, .f32⟩
  | 127 => ⟨S8x900, .f32⟩
  | _ => ⟨S8x900x91, .f32⟩

abbrev hbmTy0_2 (i : Nat) : BufTy := match i % 128 with
  | 0 => ⟨S8x900, .f32⟩
  | 1 => ⟨S_, .f32⟩
  | 2 => ⟨S8x900, .f32⟩
  | 3 => ⟨S8x900, .f32⟩
  | 4 => ⟨S_, .f32⟩
  | 5 => ⟨S8x900, .f32⟩
  | 6 => ⟨S8x900, .f32⟩
  | 7 => ⟨S_, .f32⟩
  | 8 => ⟨S8x900, .f32⟩
  | 9 => ⟨S8x900, .f32⟩
  | 10 => ⟨S_, .f32⟩
  | 11 => ⟨S8x900, .f32⟩
  | 12 => ⟨S8x900, .f32⟩
  | 13 => ⟨S8x900, .f32⟩
  | 14 => ⟨S8x900, .f32⟩
  | 15 => ⟨S_, .f32⟩
  | 16 => ⟨S8x900, .f32⟩
  | 17 => ⟨S8x900, .f32⟩
  | 18 => ⟨S_, .f32⟩
  | 19 => ⟨S8x900, .f32⟩
  | 20 => ⟨S8x900, .f32⟩
  | 21 => ⟨S8x900, .f32⟩
  | 22 => ⟨S_, .f32⟩
  | 23 => ⟨S8x900, .f32⟩
  | 24 => ⟨S8x900, .f32⟩
  | 25 => ⟨S8x900, .f32⟩
  | 26 => ⟨S_, .f32⟩
  | 27 => ⟨S8x900, .f32⟩
  | 28 => ⟨S8x900, .f32⟩
  | 29 => ⟨S_, .f32⟩
  | 30 => ⟨S8x900, .f32⟩
  | 31 => ⟨S8x900, .i1⟩
  | 32 => ⟨S_, .f32⟩
  | 33 => ⟨S8x900, .f32⟩
  | 34 => ⟨S8x900, .i1⟩
  | 35 => ⟨S8x900, .i1⟩
  | 36 => ⟨S_, .f32⟩
  | 37 => ⟨S8x900, .f32⟩
  | 38 => ⟨S8x900, .i1⟩
  | 39 => ⟨S8x900, .i1⟩
  | 40 => ⟨S_, .f32⟩
  | 41 => ⟨S8x900, .f32⟩
  | 42 => ⟨S8x900, .i1⟩
  | 43 => ⟨S8x900, .i1⟩
  | 44 => ⟨S_, .i32⟩
  | 45 => ⟨S_, .i32⟩
  | 46 => ⟨S_, .f32⟩
  | 47 => ⟨S8x900, .f32⟩
  | 48 => ⟨S8x900, .f32⟩
  | 49 => ⟨S_, .f32⟩
  | 50 => ⟨S8x900, .f32⟩
  | 51 => ⟨S8x900, .f32⟩
  | 52 => ⟨S8x900, .i32⟩
  | 53 => ⟨S_, .i32⟩
  | 54 => ⟨S_, .i32⟩
  | 55 => ⟨S_, .f32⟩
  | 56 => ⟨S8x900, .f32⟩
  | 57 => ⟨S8x900, .f32⟩
  | 58 => ⟨S_, .f32⟩
  | 59 => ⟨S8x900, .f32⟩
  | 60 => ⟨S8x900, .f32⟩
  | 61 => ⟨S8x900, .i32⟩
  | 62 => ⟨S8, .i32⟩
  | 63 => ⟨S8x1, .i32⟩
  | 64 => ⟨S_, .i32⟩
  | 65 => ⟨S8x1, .i32⟩
  | 66 => ⟨S8x1, .i1⟩
  | 67 => ⟨S_, .i32⟩
  | 68 => ⟨S8x1, .i32⟩
  | 69 => ⟨S8x1, .i32⟩
  | 70 => ⟨S8x1, .i32⟩
  | 71 => ⟨S_, .i32⟩
  | 72 => ⟨S8x900, .i32⟩
  | 73 => ⟨S8x900, .i1⟩
  | 74 => ⟨S_, .i32⟩
  | 75 => ⟨S8x900, .i32⟩
  | 76 => ⟨S8x900, .i32⟩
  | 77 => ⟨S8x900, .i32⟩
  | 78 => ⟨S_, .i32⟩
  | 79 => ⟨S8x900, .i32⟩
  | 80 => ⟨S8x900, .i1⟩
  | 81 => ⟨S_, .i32⟩
  | 82 => ⟨S8x900, .i32⟩
  | 83 => ⟨S8x900, .i32⟩
  | 84 => ⟨S8x900, .i32⟩
  | 85 => ⟨S8x900, .i32⟩
  | 86 => ⟨S8x900x1, .i32⟩
  | 87 => ⟨S8x900x1, .i32⟩
  | 88 => ⟨S8x900x1, .i32⟩
  | 89 => ⟨S8x900x3, .i32⟩
  | 90 => ⟨S8x900, .f32⟩
  | 91 => ⟨S_, .f32⟩
  | 92 => ⟨S_, .f32⟩
  | 93 => ⟨S8x900, .f32⟩
  | 94 => ⟨S8x900, .f32⟩
  | 95 => ⟨S8x900, .f32⟩
  | 96 => ⟨S8x900, .f32⟩
  | 97 => ⟨S_, .f32⟩
  | 98 => ⟨S8x900, .f32⟩
  | 99 => ⟨S8x900, .i1⟩
  | 100 => ⟨S_, .f32⟩
  | 101 => ⟨S8x900, .f32⟩
  | 102 => ⟨S8x900, .i1⟩
  | 103 => ⟨S8x900, .i1⟩
  | 104 => ⟨S_, .f32⟩
  | 105 => ⟨S8x900, .f32⟩
  | 106 => ⟨S8x900, .i1⟩
  | 107 => ⟨S8x900, .i1⟩
  | 108 => ⟨S_, .f32⟩
  | 109 => ⟨S8x900, .f32⟩
  | 110 => ⟨S8x900, .i1⟩
  | 111 => ⟨S8x900, .i1⟩
  | 112 => ⟨S_, .i32⟩
  | 113 => ⟨S_, .i32⟩
  | 114 => ⟨S_, .f32⟩
  | 115 => ⟨S8x900, .f32⟩
  | 116 => ⟨S8x900, .f32⟩
  | 117 => ⟨S_, .f32⟩
  | 118 => ⟨S8x900, .f32⟩
  | 119 => ⟨S8x900, .f32⟩
  | 120 => ⟨S8x900, .i32⟩
  | 121 => ⟨S_, .i32⟩
  | 122 => ⟨S_, .i32⟩
  | 123 => ⟨S_, .f32⟩
  | 124 => ⟨S8x900, .f32⟩
  | 125 => ⟨S8x900, .f32⟩
  | 126 => ⟨S_, .f32⟩
  | 127 => ⟨S8x900, .f32⟩
  | _ => ⟨S8x900x91, .f32⟩

abbrev hbmTy0_3 (i : Nat) : BufTy := match i % 128 with
  | 0 => ⟨S8x900, .f32⟩
  | 1 => ⟨S8x900, .i32⟩
  | 2 => ⟨S8, .i32⟩
  | 3 => ⟨S8x1, .i32⟩
  | 4 => ⟨S_, .i32⟩
  | 5 => ⟨S8x1, .i32⟩
  | 6 => ⟨S8x1, .i1⟩
  | 7 => ⟨S_, .i32⟩
  | 8 => ⟨S8x1, .i32⟩
  | 9 => ⟨S8x1, .i32⟩
  | 10 => ⟨S8x1, .i32⟩
  | 11 => ⟨S_, .i32⟩
  | 12 => ⟨S8x900, .i32⟩
  | 13 => ⟨S8x900, .i1⟩
  | 14 => ⟨S_, .i32⟩
  | 15 => ⟨S8x900, .i32⟩
  | 16 => ⟨S8x900, .i32⟩
  | 17 => ⟨S8x900, .i32⟩
  | 18 => ⟨S_, .i32⟩
  | 19 => ⟨S8x900, .i32⟩
  | 20 => ⟨S8x900, .i1⟩
  | 21 => ⟨S_, .i32⟩
  | 22 => ⟨S8x900, .i32⟩
  | 23 => ⟨S8x900, .i32⟩
  | 24 => ⟨S8x900, .i32⟩
  | 25 => ⟨S8x900, .i32⟩
  | 26 => ⟨S8x900x1, .i32⟩
  | 27 => ⟨S8x900x1, .i32⟩
  | 28 => ⟨S8x900x1, .i32⟩
  | 29 => ⟨S8x900x3, .i32⟩
  | 30 => ⟨S8x900, .f32⟩
  | 31 => ⟨S_, .f32⟩
  | 32 => ⟨S_, .f32⟩
  | 33 => ⟨S8x900, .f32⟩
  | 34 => ⟨S8x900, .f32⟩
  | 35 => ⟨S8x900, .f32⟩
  | 36 => ⟨S8x900, .f32⟩
  | 37 => ⟨S8x900, .f32⟩
  | 38 => ⟨S_, .f32⟩
  | 39 => ⟨S8x900, .f32⟩
  | 40 => ⟨S8x900, .i1⟩
  | 41 => ⟨S_, .f32⟩
  | 42 => ⟨S8x900, .f32⟩
  | 43 => ⟨S8x900, .i1⟩
  | 44 => ⟨S8x900, .i1⟩
  | 45 => ⟨S_, .f32⟩
  | 46 => ⟨S8x900, .f32⟩
  | 47 => ⟨S8x900, .i1⟩
  | 48 => ⟨S8x900, .i1⟩
  | 49 => ⟨S_, .f32⟩
  | 50 => ⟨S8x900, .f32⟩
  | 51 => ⟨S8x900, .i1⟩
  | 52 => ⟨S8x900, .i1⟩
  | 53 => ⟨S_, .i32⟩
  | 54 => ⟨S_, .i32⟩
  | 55 => ⟨S_, .f32⟩
  | 56 => ⟨S8x900, .f32⟩
  | 57 => ⟨S8x900, .f32⟩
  | 58 => ⟨S_, .f32⟩
  | 59 => ⟨S8x900, .f32⟩
  | 60 => ⟨S8x900, .f32⟩
  | 61 => ⟨S8x900, .i32⟩
  | 62 => ⟨S_, .i32⟩
  | 63 => ⟨S_, .i32⟩
  | 64 => ⟨S_, .f32⟩
  | 65 => ⟨S8x900, .f32⟩
  | 66 => ⟨S8x900, .f32⟩
  | 67 => ⟨S_, .f32⟩
  | 68 => ⟨S8x900, .f32⟩
  | 69 => ⟨S8x900, .f32⟩
  | 70 => ⟨S8x900, .i32⟩
  | 71 => ⟨S8, .i32⟩
  | 72 => ⟨S8x1, .i32⟩
  | 73 => ⟨S_, .i32⟩
  | 74 => ⟨S8x1, .i32⟩
  | 75 => ⟨S8x1, .i1⟩
  | 76 => ⟨S_, .i32⟩
  | 77 => ⟨S8x1, .i32⟩
  | 78 => ⟨S8x1, .i32⟩
  | 79 => ⟨S8x1, .i32⟩
  | 80 => ⟨S_, .i32⟩
  | 81 => ⟨S8x900, .i32⟩
  | 82 => ⟨S8x900, .i1⟩
  | 83 => ⟨S_, .i32⟩
  | 84 => ⟨S8x900, .i32⟩
  | 85 => ⟨S8x900, .i32⟩
  | 86 => ⟨S8x900, .i32⟩
  | 87 => ⟨S_, .i32⟩
  | 88 => ⟨S8x900, .i32⟩
  | 89 => ⟨S8x900, .i1⟩
  | 90 => ⟨S_, .i32⟩
  | 91 => ⟨S8x900, .i32⟩
  | 92 => ⟨S8x900, .i32⟩
  | 93 => ⟨S8x900, .i32⟩
  | 94 => ⟨S8x900, .i32⟩
  | 95 => ⟨S8x900x1, .i32⟩
  | 96 => ⟨S8x900x1, .i32⟩
  | 97 => ⟨S8x900x1, .i32⟩
  | 98 => ⟨S8x900x3, .i32⟩
  | 99 => ⟨S8x900, .f32⟩
  | 100 => ⟨S_, .f32⟩
  | 101 => ⟨S_, .f32⟩
  | 102 => ⟨S8x900, .f32⟩
  | 103 => ⟨S8x900, .f32⟩
  | 104 => ⟨S8x900, .f32⟩
  | 105 => ⟨S8x900, .f32⟩
  | 106 => ⟨S8x900, .f32⟩
  | 107 => ⟨S_, .f32⟩
  | 108 => ⟨S8x900, .f32⟩
  | 109 => ⟨S8x900, .i1⟩
  | 110 => ⟨S_, .f32⟩
  | 111 => ⟨S8x900, .f32⟩
  | 112 => ⟨S8x900, .i1⟩
  | 113 => ⟨S8x900, .i1⟩
  | 114 => ⟨S_, .f32⟩
  | 115 => ⟨S8x900, .f32⟩
  | 116 => ⟨S8x900, .i1⟩
  | 117 => ⟨S8x900, .i1⟩
  | 118 => ⟨S_, .f32⟩
  | 119 => ⟨S8x900, .f32⟩
  | 120 => ⟨S8x900, .i1⟩
  | 121 => ⟨S8x900, .i1⟩
  | 122 => ⟨S_, .i32⟩
  | 123 => ⟨S_, .i32⟩
  | 124 => ⟨S_, .f32⟩
  | 125 => ⟨S8x900, .f32⟩
  | 126 => ⟨S8x900, .f32⟩
  | 127 => ⟨S_, .f32⟩
  | _ => ⟨S8x900x91, .f32⟩

abbrev hbmTy0_4 (i : Nat) : BufTy := match i % 128 with
  | 0 => ⟨S8x900, .f32⟩
  | 1 => ⟨S8x900, .f32⟩
  | 2 => ⟨S8x900, .i32⟩
  | 3 => ⟨S_, .i32⟩
  | 4 => ⟨S_, .i32⟩
  | 5 => ⟨S_, .f32⟩
  | 6 => ⟨S8x900, .f32⟩
  | 7 => ⟨S8x900, .f32⟩
  | 8 => ⟨S_, .f32⟩
  | 9 => ⟨S8x900, .f32⟩
  | 10 => ⟨S8x900, .f32⟩
  | 11 => ⟨S8x900, .i32⟩
  | 12 => ⟨S8, .i32⟩
  | 13 => ⟨S8x1, .i32⟩
  | 14 => ⟨S_, .i32⟩
  | 15 => ⟨S8x1, .i32⟩
  | 16 => ⟨S8x1, .i1⟩
  | 17 => ⟨S_, .i32⟩
  | 18 => ⟨S8x1, .i32⟩
  | 19 => ⟨S8x1, .i32⟩
  | 20 => ⟨S8x1, .i32⟩
  | 21 => ⟨S_, .i32⟩
  | 22 => ⟨S8x900, .i32⟩
  | 23 => ⟨S8x900, .i1⟩
  | 24 => ⟨S_, .i32⟩
  | 25 => ⟨S8x900, .i32⟩
  | 26 => ⟨S8x900, .i32⟩
  | 27 => ⟨S8x900, .i32⟩
  | 28 => ⟨S_, .i32⟩
  | 29 => ⟨S8x900, .i32⟩
  | 30 => ⟨S8x900, .i1⟩
  | 31 => ⟨S_, .i32⟩
  | 32 => ⟨S8x900, .i32⟩
  | 33 => ⟨S8x900, .i32⟩
  | 34 => ⟨S8x900, .i32⟩
  | 35 => ⟨S8x900, .i32⟩
  | 36 => ⟨S8x900x1, .i32⟩
  | 37 => ⟨S8x900x1, .i32⟩
  | 38 => ⟨S8x900x1, .i32⟩
  | 39 => ⟨S8x900x3, .i32⟩
  | 40 => ⟨S8x900, .f32⟩
  | 41 => ⟨S_, .f32⟩
  | 42 => ⟨S_, .f32⟩
  | 43 => ⟨S8x900, .f32⟩
  | 44 => ⟨S8x900, .f32⟩
  | 45 => ⟨S8x900, .f32⟩
  | 46 => ⟨S8x900, .f32⟩
  | 47 => ⟨S8x900, .f32⟩
  | 48 => ⟨S8x900x1, .f32⟩
  | 49 => ⟨S8x900x1x128, .f32⟩
  | 50 => ⟨S8x900x128, .f32⟩
  | 51 => ⟨S8x900x128, .f32⟩
  | 52 => ⟨S_, .f32⟩
  | 53 => ⟨S8x900x128, .f32⟩
  | 54 => ⟨S8x900x128, .f32⟩
  | 55 => ⟨S_, .f32⟩
  | 56 => ⟨S8x900x128, .f32⟩
  | 57 => ⟨S8x900x128, .f32⟩
  | 58 => ⟨S8x900x128, .f32⟩
  | 59 => ⟨S_, .f32⟩
  | 60 => ⟨S8x900x128, .f32⟩
  | 61 => ⟨S8x900x128, .f32⟩
  | 62 => ⟨S8x900x128, .f32⟩
  | 63 => ⟨S_, .f32⟩
  | 64 => ⟨S8x900x128, .f32⟩
  | 65 => ⟨S8x900x128, .f32⟩
  | 66 => ⟨S8x900x128, .f32⟩
  | 67 => ⟨S8x128x1, .f32⟩
  | 68 => ⟨S8x128, .f32⟩
  | 69 => ⟨S8x128x1, .f32⟩
  | 70 => ⟨S8x128, .f32⟩
  | 71 => ⟨S8x128, .f32⟩
  | 72 => ⟨S_, .f32⟩
  | 73 => ⟨S8x128, .f32⟩
  | 74 => ⟨S8x128, .i1⟩
  | 75 => ⟨S_, .i32⟩
  | 76 => ⟨S_, .i32⟩
  | 77 => ⟨S8x128, .i32⟩
  | 78 => ⟨S8x128, .i32⟩
  | 79 => ⟨S8x128, .i32⟩
  | 80 => ⟨S8x128x900, .f32⟩
  | 81 => ⟨S8x128x900, .f32⟩
  | 82 => ⟨S8x128x6, .f32⟩
  | 83 => ⟨S8x128x6, .i32⟩
  | 84 => ⟨S6, .i32⟩
  | 85 => ⟨S1x1x6, .i32⟩
  | 86 => ⟨S8x128x1, .i32⟩
  | 87 => ⟨S8x128x1, .i32⟩
  | 88 => ⟨S8x128x6, .i32⟩
  | 89 => ⟨S8x128x6, .i32⟩
  | 90 => ⟨S8x128x6, .i1⟩
  | 91 => ⟨S8x1x128x6, .i32⟩
  | 92 => ⟨S900, .i32⟩
  | 93 => ⟨S1x900x1x1, .i32⟩
  | 94 => ⟨S8x900x128x6, .i32⟩
  | 95 => ⟨S8x900x128x6, .i32⟩
  | 96 => ⟨S8x900x128x6, .i1⟩
  | 97 => ⟨S8x1x128x6, .i1⟩
  | 98 => ⟨S8x900x128x6, .i1⟩
  | 99 => ⟨S8x900x128x6, .i1⟩
  | 100 => ⟨S_, .i1⟩
  | 101 => ⟨S8x900x128, .i1⟩
  | 102 => ⟨S8x900x128, .i32⟩
  | 103 => ⟨S_, .i32⟩
  | 104 => ⟨S8x900, .i32⟩
  | 105 => ⟨S_, .i32⟩
  | 106 => ⟨S8x900, .i32⟩
  | 107 => ⟨S8x900, .i1⟩
  | 108 => ⟨S_, .f32⟩
  | 109 => ⟨S_, .f32⟩
  | 110 => ⟨S8x900x128, .f32⟩
  | 111 => ⟨S8x900x128, .f32⟩
  | 112 => ⟨S8x900x128, .f32⟩
  | 113 => ⟨S8x900x1, .f32⟩
  | 114 => ⟨S8x900x1, .i32⟩
  | 115 => ⟨S128, .i32⟩
  | 116 => ⟨S1x1x128, .i32⟩
  | 117 => ⟨S8x900x128, .i32⟩
  | 118 => ⟨S8x900x128, .i32⟩
  | 119 => ⟨S8x900x128, .i1⟩
  | 120 => ⟨S8x900x1, .i1⟩
  | 121 => ⟨S8x900x128, .i1⟩
  | 122 => ⟨S8x900x128, .i1⟩
  | _ => ⟨S8x900x91, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x900x91, .f32⟩

abbrev bufTy : (tb : Table) → Fin (tcTables nBuf tb) → BufTy
  | .hbm, ⟨i, _⟩ => hbmTy i
  | _, _ => ⟨S8x900x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c : Ref sig .tc := ⟨.hbm, 47, rfl⟩
abbrev main_v32 : Ref sig .tc := ⟨.hbm, 48, rfl⟩
abbrev main_v33 : Ref sig .tc := ⟨.hbm, 49, rfl⟩
abbrev main_c_9 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_10 : Ref sig .tc := ⟨.hbm, 56, rfl⟩
abbrev main_v39 : Ref sig .tc := ⟨.hbm, 57, rfl⟩
abbrev main_v40 : Ref sig .tc := ⟨.hbm, 58, rfl⟩
abbrev main_c_11 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_15 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_17 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_18 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_19 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_20 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_cst_21 : Ref sig .tc := ⟨.hbm, 169, rfl⟩
abbrev main_call0_v0 : Ref sig .tc := ⟨.hbm, 170, rfl⟩
abbrev main_call0_v1 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_cst_22 : Ref sig .tc := ⟨.hbm, 200, rfl⟩
abbrev main_call1_v0 : Ref sig .tc := ⟨.hbm, 201, rfl⟩
abbrev main_call1_v1 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_cst_23 : Ref sig .tc := ⟨.hbm, 214, rfl⟩
abbrev main_v180 : Ref sig .tc := ⟨.hbm, 215, rfl⟩
abbrev main_v181 : Ref sig .tc := ⟨.hbm, 216, rfl⟩
abbrev main_cst_24 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_cst_25 : Ref sig .tc := ⟨.hbm, 230, rfl⟩
abbrev main_v194 : Ref sig .tc := ⟨.hbm, 231, rfl⟩
abbrev main_v195 : Ref sig .tc := ⟨.hbm, 232, rfl⟩
abbrev main_cst_26 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_cst_27 : Ref sig .tc := ⟨.hbm, 238, rfl⟩
abbrev main_v200 : Ref sig .tc := ⟨.hbm, 239, rfl⟩
abbrev main_v201 : Ref sig .tc := ⟨.hbm, 240, rfl⟩
abbrev main_cst_28 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_cst_29 : Ref sig .tc := ⟨.hbm, 245, rfl⟩
abbrev main_v205 : Ref sig .tc := ⟨.hbm, 246, rfl⟩
abbrev main_v206 : Ref sig .tc := ⟨.hbm, 247, rfl⟩
abbrev main_cst_30 : Ref sig .tc := ⟨.hbm, 248, rfl⟩
abbrev main_v207 : Ref sig .tc := ⟨.hbm, 249, rfl⟩
abbrev main_v208 : Ref sig .tc := ⟨.hbm, 250, rfl⟩
abbrev main_cst_31 : Ref sig .tc := ⟨.hbm, 251, rfl⟩
abbrev main_v209 : Ref sig .tc := ⟨.hbm, 252, rfl⟩
abbrev main_v210 : Ref sig .tc := ⟨.hbm, 253, rfl⟩
abbrev main_cst_32 : Ref sig .tc := ⟨.hbm, 254, rfl⟩
abbrev main_v211 : Ref sig .tc := ⟨.hbm, 255, rfl⟩
abbrev main_v212 : Ref sig .tc := ⟨.hbm, 256, rfl⟩
abbrev main_cst_33 : Ref sig .tc := ⟨.hbm, 257, rfl⟩
abbrev main_v213 : Ref sig .tc := ⟨.hbm, 258, rfl⟩
abbrev main_v214 : Ref sig .tc := ⟨.hbm, 259, rfl⟩
abbrev main_cst_34 : Ref sig .tc := ⟨.hbm, 260, rfl⟩
abbrev main_v215 : Ref sig .tc := ⟨.hbm, 261, rfl⟩
abbrev main_v216 : Ref sig .tc := ⟨.hbm, 262, rfl⟩
abbrev main_cst_35 : Ref sig .tc := ⟨.hbm, 263, rfl⟩
abbrev main_v217 : Ref sig .tc := ⟨.hbm, 264, rfl⟩
abbrev main_v218 : Ref sig .tc := ⟨.hbm, 265, rfl⟩
abbrev main_cst_36 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_cst_37 : Ref sig .tc := ⟨.hbm, 271, rfl⟩
abbrev main_v223 : Ref sig .tc := ⟨.hbm, 272, rfl⟩
abbrev main_v224 : Ref sig .tc := ⟨.hbm, 273, rfl⟩
abbrev main_cst_38 : Ref sig .tc := ⟨.hbm, 274, rfl⟩
abbrev main_v225 : Ref sig .tc := ⟨.hbm, 275, rfl⟩
abbrev main_v226 : Ref sig .tc := ⟨.hbm, 276, rfl⟩
abbrev main_v227 : Ref sig .tc := ⟨.hbm, 277, rfl⟩
abbrev main_cst_39 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_cst_40 : Ref sig .tc := ⟨.hbm, 282, rfl⟩
abbrev main_v231 : Ref sig .tc := ⟨.hbm, 283, rfl⟩
abbrev main_v232 : Ref sig .tc := ⟨.hbm, 284, rfl⟩
abbrev main_cst_41 : Ref sig .tc := ⟨.hbm, 285, rfl⟩
abbrev main_v233 : Ref sig .tc := ⟨.hbm, 286, rfl⟩
abbrev main_v234 : Ref sig .tc := ⟨.hbm, 287, rfl⟩
abbrev main_cst_42 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_cst_43 : Ref sig .tc := ⟨.hbm, 292, rfl⟩
abbrev main_v238 : Ref sig .tc := ⟨.hbm, 293, rfl⟩
abbrev main_v239 : Ref sig .tc := ⟨.hbm, 294, rfl⟩
abbrev main_v240 : Ref sig .tc := ⟨.hbm, 295, rfl⟩
abbrev main_cst_44 : Ref sig .tc := ⟨.hbm, 296, rfl⟩
abbrev main_v241 : Ref sig .tc := ⟨.hbm, 297, rfl⟩
abbrev main_v242 : Ref sig .tc := ⟨.hbm, 298, rfl⟩
abbrev main_v243 : Ref sig .tc := ⟨.hbm, 299, rfl⟩
abbrev main_c_45 : Ref sig .tc := ⟨.hbm, 300, rfl⟩
abbrev main_c_46 : Ref sig .tc := ⟨.hbm, 301, rfl⟩
abbrev main_call2_v0 : Ref sig .tc := ⟨.hbm, 302, rfl⟩
abbrev main_call2_v1 : Ref sig .tc := ⟨.hbm, 303, rfl⟩
abbrev main_call2_v2 : Ref sig .tc := ⟨.hbm, 304, rfl⟩
abbrev main_call2_v3 : Ref sig .tc := ⟨.hbm, 305, rfl⟩
abbrev main_call2_v4 : Ref sig .tc := ⟨.hbm, 306, rfl⟩
abbrev main_v244 : Ref sig .tc := ⟨.hbm, 307, rfl⟩
abbrev main_v245 : Ref sig .tc := ⟨.hbm, 308, rfl⟩
abbrev main_c_47 : Ref sig .tc := ⟨.hbm, 309, rfl⟩
abbrev main_c_48 : Ref sig .tc := ⟨.hbm, 310, rfl⟩
abbrev main_call3_v0 : Ref sig .tc := ⟨.hbm, 311, rfl⟩
abbrev main_call3_v1 : Ref sig .tc := ⟨.hbm, 312, rfl⟩
abbrev main_call3_v2 : Ref sig .tc := ⟨.hbm, 313, rfl⟩
abbrev main_call3_v3 : Ref sig .tc := ⟨.hbm, 314, rfl⟩
abbrev main_call3_v4 : Ref sig .tc := ⟨.hbm, 315, rfl⟩
abbrev main_v246 : Ref sig .tc := ⟨.hbm, 316, rfl⟩
abbrev main_v247 : Ref sig .tc := ⟨.hbm, 317, rfl⟩
abbrev main_v248 : Ref sig .tc := ⟨.hbm, 318, rfl⟩
abbrev main_v249 : Ref sig .tc := ⟨.hbm, 319, rfl⟩
abbrev main_c_49 : Ref sig .tc := ⟨.hbm, 320, rfl⟩
abbrev main_v250 : Ref sig .tc := ⟨.hbm, 321, rfl⟩
abbrev main_v251 : Ref sig .tc := ⟨.hbm, 322, rfl⟩
abbrev main_c_50 : Ref sig .tc := ⟨.hbm, 323, rfl⟩
abbrev main_v252 : Ref sig .tc := ⟨.hbm, 324, rfl⟩
abbrev main_v253 : Ref sig .tc := ⟨.hbm, 325, rfl⟩
abbrev main_v254 : Ref sig .tc := ⟨.hbm, 326, rfl⟩
abbrev main_c_51 : Ref sig .tc := ⟨.hbm, 327, rfl⟩
abbrev main_v255 : Ref sig .tc := ⟨.hbm, 328, rfl⟩
abbrev main_v256 : Ref sig .tc := ⟨.hbm, 329, rfl⟩
abbrev main_c_52 : Ref sig .tc := ⟨.hbm, 330, rfl⟩
abbrev main_v257 : Ref sig .tc := ⟨.hbm, 331, rfl⟩
abbrev main_v258 : Ref sig .tc := ⟨.hbm, 332, rfl⟩
abbrev main_v259 : Ref sig .tc := ⟨.hbm, 333, rfl⟩
abbrev main_c_53 : Ref sig .tc := ⟨.hbm, 334, rfl⟩
abbrev main_v260 : Ref sig .tc := ⟨.hbm, 335, rfl⟩
abbrev main_v261 : Ref sig .tc := ⟨.hbm, 336, rfl⟩
abbrev main_c_54 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_v267 : Ref sig .tc := ⟨.hbm, 343, rfl⟩
abbrev main_v268 : Ref sig .tc := ⟨.hbm, 344, rfl⟩
abbrev main_v269 : Ref sig .tc := ⟨.hbm, 345, rfl⟩
abbrev main_v270 : Ref sig .tc := ⟨.hbm, 346, rfl⟩
abbrev main_cst_55 : Ref sig .tc := ⟨.hbm, 347, rfl⟩
abbrev main_call4_v0 : Ref sig .tc := ⟨.hbm, 348, rfl⟩
abbrev main_call4_v1 : Ref sig .tc := ⟨.hbm, 349, rfl⟩
abbrev main_v271 : Ref sig .tc := ⟨.hbm, 350, rfl⟩
abbrev main_v272 : Ref sig .tc := ⟨.hbm, 351, rfl⟩
abbrev main_v273 : Ref sig .tc := ⟨.hbm, 352, rfl⟩
abbrev main_cst_56 : Ref sig .tc := ⟨.hbm, 353, rfl⟩
abbrev main_v274 : Ref sig .tc := ⟨.hbm, 354, rfl⟩
abbrev main_v275 : Ref sig .tc := ⟨.hbm, 355, rfl⟩
abbrev main_cst_57 : Ref sig .tc := ⟨.hbm, 356, rfl⟩
abbrev main_v276 : Ref sig .tc := ⟨.hbm, 357, rfl⟩
abbrev main_v277 : Ref sig .tc := ⟨.hbm, 358, rfl⟩
abbrev main_v278 : Ref sig .tc := ⟨.hbm, 359, rfl⟩
abbrev main_cst_58 : Ref sig .tc := ⟨.hbm, 360, rfl⟩
abbrev main_v279 : Ref sig .tc := ⟨.hbm, 361, rfl⟩
abbrev main_v280 : Ref sig .tc := ⟨.hbm, 362, rfl⟩
abbrev main_v281 : Ref sig .tc := ⟨.hbm, 363, rfl⟩
abbrev main_cst_59 : Ref sig .tc := ⟨.hbm, 364, rfl⟩
abbrev main_v282 : Ref sig .tc := ⟨.hbm, 365, rfl⟩
abbrev main_v283 : Ref sig .tc := ⟨.hbm, 366, rfl⟩
abbrev main_v284 : Ref sig .tc := ⟨.hbm, 367, rfl⟩
abbrev main_c_60 : Ref sig .tc := ⟨.hbm, 368, rfl⟩
abbrev main_c_61 : Ref sig .tc := ⟨.hbm, 369, rfl⟩
abbrev main_call5_v0 : Ref sig .tc := ⟨.hbm, 370, rfl⟩
abbrev main_call5_v1 : Ref sig .tc := ⟨.hbm, 371, rfl⟩
abbrev main_call5_v2 : Ref sig .tc := ⟨.hbm, 372, rfl⟩
abbrev main_call5_v3 : Ref sig .tc := ⟨.hbm, 373, rfl⟩
abbrev main_call5_v4 : Ref sig .tc := ⟨.hbm, 374, rfl⟩
abbrev main_v285 : Ref sig .tc := ⟨.hbm, 375, rfl⟩
abbrev main_v286 : Ref sig .tc := ⟨.hbm, 376, rfl⟩
abbrev main_c_62 : Ref sig .tc := ⟨.hbm, 377, rfl⟩
abbrev main_c_63 : Ref sig .tc := ⟨.hbm, 378, rfl⟩
abbrev main_call6_v0 : Ref sig .tc := ⟨.hbm, 379, rfl⟩
abbrev main_call6_v1 : Ref sig .tc := ⟨.hbm, 380, rfl⟩
abbrev main_call6_v2 : Ref sig .tc := ⟨.hbm, 381, rfl⟩
abbrev main_call6_v3 : Ref sig .tc := ⟨.hbm, 382, rfl⟩
abbrev main_call6_v4 : Ref sig .tc := ⟨.hbm, 383, rfl⟩
abbrev main_v287 : Ref sig .tc := ⟨.hbm, 384, rfl⟩
abbrev main_v288 : Ref sig .tc := ⟨.hbm, 385, rfl⟩
abbrev main_v289 : Ref sig .tc := ⟨.hbm, 386, rfl⟩
abbrev main_v290 : Ref sig .tc := ⟨.hbm, 387, rfl⟩
abbrev main_c_64 : Ref sig .tc := ⟨.hbm, 388, rfl⟩
abbrev main_v291 : Ref sig .tc := ⟨.hbm, 389, rfl⟩
abbrev main_v292 : Ref sig .tc := ⟨.hbm, 390, rfl⟩
abbrev main_c_65 : Ref sig .tc := ⟨.hbm, 391, rfl⟩
abbrev main_v293 : Ref sig .tc := ⟨.hbm, 392, rfl⟩
abbrev main_v294 : Ref sig .tc := ⟨.hbm, 393, rfl⟩
abbrev main_v295 : Ref sig .tc := ⟨.hbm, 394, rfl⟩
abbrev main_c_66 : Ref sig .tc := ⟨.hbm, 395, rfl⟩
abbrev main_v296 : Ref sig .tc := ⟨.hbm, 396, rfl⟩
abbrev main_v297 : Ref sig .tc := ⟨.hbm, 397, rfl⟩
abbrev main_c_67 : Ref sig .tc := ⟨.hbm, 398, rfl⟩
abbrev main_v298 : Ref sig .tc := ⟨.hbm, 399, rfl⟩
abbrev main_v299 : Ref sig .tc := ⟨.hbm, 400, rfl⟩
abbrev main_v300 : Ref sig .tc := ⟨.hbm, 401, rfl⟩
abbrev main_c_68 : Ref sig .tc := ⟨.hbm, 402, rfl⟩
abbrev main_v301 : Ref sig .tc := ⟨.hbm, 403, rfl⟩
abbrev main_v302 : Ref sig .tc := ⟨.hbm, 404, rfl⟩
abbrev main_c_69 : Ref sig .tc := ⟨.hbm, 405, rfl⟩
abbrev main_v303 : Ref sig .tc := ⟨.hbm, 406, rfl⟩
abbrev main_v304 : Ref sig .tc := ⟨.hbm, 407, rfl⟩
abbrev main_v305 : Ref sig .tc := ⟨.hbm, 408, rfl⟩
abbrev main_v306 : Ref sig .tc := ⟨.hbm, 409, rfl⟩
abbrev main_v307 : Ref sig .tc := ⟨.hbm, 410, rfl⟩
abbrev main_v308 : Ref sig .tc := ⟨.hbm, 411, rfl⟩
abbrev main_v309 : Ref sig .tc := ⟨.hbm, 412, rfl⟩
abbrev main_v310 : Ref sig .tc := ⟨.hbm, 413, rfl⟩
abbrev main_v311 : Ref sig .tc := ⟨.hbm, 414, rfl⟩
abbrev main_cst_70 : Ref sig .tc := ⟨.hbm, 415, rfl⟩
abbrev main_call7_v0 : Ref sig .tc := ⟨.hbm, 416, rfl⟩
abbrev main_call7_v1 : Ref sig .tc := ⟨.hbm, 417, rfl⟩
abbrev main_v312 : Ref sig .tc := ⟨.hbm, 418, rfl⟩
abbrev main_v313 : Ref sig .tc := ⟨.hbm, 419, rfl⟩
abbrev main_v314 : Ref sig .tc := ⟨.hbm, 420, rfl⟩
abbrev main_v315 : Ref sig .tc := ⟨.hbm, 421, rfl⟩
abbrev main_cst_71 : Ref sig .tc := ⟨.hbm, 422, rfl⟩
abbrev main_v316 : Ref sig .tc := ⟨.hbm, 423, rfl⟩
abbrev main_v317 : Ref sig .tc := ⟨.hbm, 424, rfl⟩
abbrev main_cst_72 : Ref sig .tc := ⟨.hbm, 425, rfl⟩
abbrev main_v318 : Ref sig .tc := ⟨.hbm, 426, rfl⟩
abbrev main_v319 : Ref sig .tc := ⟨.hbm, 427, rfl⟩
abbrev main_v320 : Ref sig .tc := ⟨.hbm, 428, rfl⟩
abbrev main_cst_73 : Ref sig .tc := ⟨.hbm, 429, rfl⟩
abbrev main_v321 : Ref sig .tc := ⟨.hbm, 430, rfl⟩
abbrev main_v322 : Ref sig .tc := ⟨.hbm, 431, rfl⟩
abbrev main_v323 : Ref sig .tc := ⟨.hbm, 432, rfl⟩
abbrev main_cst_74 : Ref sig .tc := ⟨.hbm, 433, rfl⟩
abbrev main_v324 : Ref sig .tc := ⟨.hbm, 434, rfl⟩
abbrev main_v325 : Ref sig .tc := ⟨.hbm, 435, rfl⟩
abbrev main_v326 : Ref sig .tc := ⟨.hbm, 436, rfl⟩
abbrev main_c_75 : Ref sig .tc := ⟨.hbm, 437, rfl⟩
abbrev main_c_76 : Ref sig .tc := ⟨.hbm, 438, rfl⟩
abbrev main_call8_v0 : Ref sig .tc := ⟨.hbm, 439, rfl⟩
abbrev main_call8_v1 : Ref sig .tc := ⟨.hbm, 440, rfl⟩
abbrev main_call8_v2 : Ref sig .tc := ⟨.hbm, 441, rfl⟩
abbrev main_call8_v3 : Ref sig .tc := ⟨.hbm, 442, rfl⟩
abbrev main_call8_v4 : Ref sig .tc := ⟨.hbm, 443, rfl⟩
abbrev main_v327 : Ref sig .tc := ⟨.hbm, 444, rfl⟩
abbrev main_v328 : Ref sig .tc := ⟨.hbm, 445, rfl⟩
abbrev main_c_77 : Ref sig .tc := ⟨.hbm, 446, rfl⟩
abbrev main_c_78 : Ref sig .tc := ⟨.hbm, 447, rfl⟩
abbrev main_call9_v0 : Ref sig .tc := ⟨.hbm, 448, rfl⟩
abbrev main_call9_v1 : Ref sig .tc := ⟨.hbm, 449, rfl⟩
abbrev main_call9_v2 : Ref sig .tc := ⟨.hbm, 450, rfl⟩
abbrev main_call9_v3 : Ref sig .tc := ⟨.hbm, 451, rfl⟩
abbrev main_call9_v4 : Ref sig .tc := ⟨.hbm, 452, rfl⟩
abbrev main_v329 : Ref sig .tc := ⟨.hbm, 453, rfl⟩
abbrev main_v330 : Ref sig .tc := ⟨.hbm, 454, rfl⟩
abbrev main_v331 : Ref sig .tc := ⟨.hbm, 455, rfl⟩
abbrev main_v332 : Ref sig .tc := ⟨.hbm, 456, rfl⟩
abbrev main_c_79 : Ref sig .tc := ⟨.hbm, 457, rfl⟩
abbrev main_v333 : Ref sig .tc := ⟨.hbm, 458, rfl⟩
abbrev main_v334 : Ref sig .tc := ⟨.hbm, 459, rfl⟩
abbrev main_c_80 : Ref sig .tc := ⟨.hbm, 460, rfl⟩
abbrev main_v335 : Ref sig .tc := ⟨.hbm, 461, rfl⟩
abbrev main_v336 : Ref sig .tc := ⟨.hbm, 462, rfl⟩
abbrev main_v337 : Ref sig .tc := ⟨.hbm, 463, rfl⟩
abbrev main_c_81 : Ref sig .tc := ⟨.hbm, 464, rfl⟩
abbrev main_v338 : Ref sig .tc := ⟨.hbm, 465, rfl⟩
abbrev main_v339 : Ref sig .tc := ⟨.hbm, 466, rfl⟩
abbrev main_c_82 : Ref sig .tc := ⟨.hbm, 467, rfl⟩
abbrev main_v340 : Ref sig .tc := ⟨.hbm, 468, rfl⟩
abbrev main_v341 : Ref sig .tc := ⟨.hbm, 469, rfl⟩
abbrev main_v342 : Ref sig .tc := ⟨.hbm, 470, rfl⟩
abbrev main_c_83 : Ref sig .tc := ⟨.hbm, 471, rfl⟩
abbrev main_v343 : Ref sig .tc := ⟨.hbm, 472, rfl⟩
abbrev main_v344 : Ref sig .tc := ⟨.hbm, 473, rfl⟩
abbrev main_c_84 : Ref sig .tc := ⟨.hbm, 474, rfl⟩
abbrev main_v345 : Ref sig .tc := ⟨.hbm, 475, rfl⟩
abbrev main_v346 : Ref sig .tc := ⟨.hbm, 476, rfl⟩
abbrev main_v347 : Ref sig .tc := ⟨.hbm, 477, rfl⟩
abbrev main_v348 : Ref sig .tc := ⟨.hbm, 478, rfl⟩
abbrev main_v349 : Ref sig .tc := ⟨.hbm, 479, rfl⟩
abbrev main_v350 : Ref sig .tc := ⟨.hbm, 480, rfl⟩
abbrev main_v351 : Ref sig .tc := ⟨.hbm, 481, rfl⟩
abbrev main_v352 : Ref sig .tc := ⟨.hbm, 482, rfl⟩
abbrev main_v353 : Ref sig .tc := ⟨.hbm, 483, rfl⟩
abbrev main_cst_85 : Ref sig .tc := ⟨.hbm, 484, rfl⟩
abbrev main_call10_v0 : Ref sig .tc := ⟨.hbm, 485, rfl⟩
abbrev main_call10_v1 : Ref sig .tc := ⟨.hbm, 486, rfl⟩
abbrev main_v354 : Ref sig .tc := ⟨.hbm, 487, rfl⟩
abbrev main_v355 : Ref sig .tc := ⟨.hbm, 488, rfl⟩
abbrev main_v356 : Ref sig .tc := ⟨.hbm, 489, rfl⟩
abbrev main_v357 : Ref sig .tc := ⟨.hbm, 490, rfl⟩
abbrev main_cst_86 : Ref sig .tc := ⟨.hbm, 491, rfl⟩
abbrev main_v358 : Ref sig .tc := ⟨.hbm, 492, rfl⟩
abbrev main_v359 : Ref sig .tc := ⟨.hbm, 493, rfl⟩
abbrev main_cst_87 : Ref sig .tc := ⟨.hbm, 494, rfl⟩
abbrev main_v360 : Ref sig .tc := ⟨.hbm, 495, rfl⟩
abbrev main_v361 : Ref sig .tc := ⟨.hbm, 496, rfl⟩
abbrev main_v362 : Ref sig .tc := ⟨.hbm, 497, rfl⟩
abbrev main_cst_88 : Ref sig .tc := ⟨.hbm, 498, rfl⟩
abbrev main_v363 : Ref sig .tc := ⟨.hbm, 499, rfl⟩
abbrev main_v364 : Ref sig .tc := ⟨.hbm, 500, rfl⟩
abbrev main_v365 : Ref sig .tc := ⟨.hbm, 501, rfl⟩
abbrev main_cst_89 : Ref sig .tc := ⟨.hbm, 502, rfl⟩
abbrev main_v366 : Ref sig .tc := ⟨.hbm, 503, rfl⟩
abbrev main_v367 : Ref sig .tc := ⟨.hbm, 504, rfl⟩
abbrev main_v368 : Ref sig .tc := ⟨.hbm, 505, rfl⟩
abbrev main_c_90 : Ref sig .tc := ⟨.hbm, 506, rfl⟩
abbrev main_c_91 : Ref sig .tc := ⟨.hbm, 507, rfl⟩
abbrev main_call11_v0 : Ref sig .tc := ⟨.hbm, 508, rfl⟩
abbrev main_call11_v1 : Ref sig .tc := ⟨.hbm, 509, rfl⟩
abbrev main_call11_v2 : Ref sig .tc := ⟨.hbm, 510, rfl⟩
abbrev main_call11_v3 : Ref sig .tc := ⟨.hbm, 511, rfl⟩
abbrev main_call11_v4 : Ref sig .tc := ⟨.hbm, 512, rfl⟩
abbrev main_v369 : Ref sig .tc := ⟨.hbm, 513, rfl⟩
abbrev main_v370 : Ref sig .tc := ⟨.hbm, 514, rfl⟩
abbrev main_c_92 : Ref sig .tc := ⟨.hbm, 515, rfl⟩
abbrev main_c_93 : Ref sig .tc := ⟨.hbm, 516, rfl⟩
abbrev main_call12_v0 : Ref sig .tc := ⟨.hbm, 517, rfl⟩
abbrev main_call12_v1 : Ref sig .tc := ⟨.hbm, 518, rfl⟩
abbrev main_call12_v2 : Ref sig .tc := ⟨.hbm, 519, rfl⟩
abbrev main_call12_v3 : Ref sig .tc := ⟨.hbm, 520, rfl⟩
abbrev main_call12_v4 : Ref sig .tc := ⟨.hbm, 521, rfl⟩
abbrev main_v371 : Ref sig .tc := ⟨.hbm, 522, rfl⟩
abbrev main_v372 : Ref sig .tc := ⟨.hbm, 523, rfl⟩
abbrev main_v373 : Ref sig .tc := ⟨.hbm, 524, rfl⟩
abbrev main_v374 : Ref sig .tc := ⟨.hbm, 525, rfl⟩
abbrev main_c_94 : Ref sig .tc := ⟨.hbm, 526, rfl⟩
abbrev main_v375 : Ref sig .tc := ⟨.hbm, 527, rfl⟩
abbrev main_v376 : Ref sig .tc := ⟨.hbm, 528, rfl⟩
abbrev main_c_95 : Ref sig .tc := ⟨.hbm, 529, rfl⟩
abbrev main_v377 : Ref sig .tc := ⟨.hbm, 530, rfl⟩
abbrev main_v378 : Ref sig .tc := ⟨.hbm, 531, rfl⟩
abbrev main_v379 : Ref sig .tc := ⟨.hbm, 532, rfl⟩
abbrev main_c_96 : Ref sig .tc := ⟨.hbm, 533, rfl⟩
abbrev main_v380 : Ref sig .tc := ⟨.hbm, 534, rfl⟩
abbrev main_v381 : Ref sig .tc := ⟨.hbm, 535, rfl⟩
abbrev main_c_97 : Ref sig .tc := ⟨.hbm, 536, rfl⟩
abbrev main_v382 : Ref sig .tc := ⟨.hbm, 537, rfl⟩
abbrev main_v383 : Ref sig .tc := ⟨.hbm, 538, rfl⟩
abbrev main_v384 : Ref sig .tc := ⟨.hbm, 539, rfl⟩
abbrev main_c_98 : Ref sig .tc := ⟨.hbm, 540, rfl⟩
abbrev main_v385 : Ref sig .tc := ⟨.hbm, 541, rfl⟩
abbrev main_v386 : Ref sig .tc := ⟨.hbm, 542, rfl⟩
abbrev main_c_99 : Ref sig .tc := ⟨.hbm, 543, rfl⟩
abbrev main_v387 : Ref sig .tc := ⟨.hbm, 544, rfl⟩
abbrev main_v388 : Ref sig .tc := ⟨.hbm, 545, rfl⟩
abbrev main_v389 : Ref sig .tc := ⟨.hbm, 546, rfl⟩
abbrev main_v390 : Ref sig .tc := ⟨.hbm, 547, rfl⟩
abbrev main_v391 : Ref sig .tc := ⟨.hbm, 548, rfl⟩
abbrev main_v392 : Ref sig .tc := ⟨.hbm, 549, rfl⟩
abbrev main_v393 : Ref sig .tc := ⟨.hbm, 550, rfl⟩
abbrev main_v394 : Ref sig .tc := ⟨.hbm, 551, rfl⟩
abbrev main_v395 : Ref sig .tc := ⟨.hbm, 552, rfl⟩
abbrev main_cst_100 : Ref sig .tc := ⟨.hbm, 553, rfl⟩
abbrev main_call13_v0 : Ref sig .tc := ⟨.hbm, 554, rfl⟩
abbrev main_call13_v1 : Ref sig .tc := ⟨.hbm, 555, rfl⟩
abbrev main_v396 : Ref sig .tc := ⟨.hbm, 556, rfl⟩
abbrev main_v397 : Ref sig .tc := ⟨.hbm, 557, rfl⟩
abbrev main_v398 : Ref sig .tc := ⟨.hbm, 558, rfl⟩
abbrev main_v399 : Ref sig .tc := ⟨.hbm, 559, rfl⟩
abbrev main_v400 : Ref sig .tc := ⟨.hbm, 560, rfl⟩
abbrev main_v401 : Ref sig .tc := ⟨.hbm, 561, rfl⟩
abbrev main_v402 : Ref sig .tc := ⟨.hbm, 562, rfl⟩
abbrev main_v403 : Ref sig .tc := ⟨.hbm, 563, rfl⟩
abbrev main_cst_101 : Ref sig .tc := ⟨.hbm, 564, rfl⟩
abbrev main_v404 : Ref sig .tc := ⟨.hbm, 565, rfl⟩
abbrev main_v405 : Ref sig .tc := ⟨.hbm, 566, rfl⟩
abbrev main_cst_102 : Ref sig .tc := ⟨.hbm, 567, rfl⟩
abbrev main_v406 : Ref sig .tc := ⟨.hbm, 568, rfl⟩
abbrev main_v407 : Ref sig .tc := ⟨.hbm, 569, rfl⟩
abbrev main_v408 : Ref sig .tc := ⟨.hbm, 570, rfl⟩
abbrev main_cst_103 : Ref sig .tc := ⟨.hbm, 571, rfl⟩
abbrev main_v409 : Ref sig .tc := ⟨.hbm, 572, rfl⟩
abbrev main_v410 : Ref sig .tc := ⟨.hbm, 573, rfl⟩
abbrev main_v411 : Ref sig .tc := ⟨.hbm, 574, rfl⟩
abbrev main_cst_104 : Ref sig .tc := ⟨.hbm, 575, rfl⟩
abbrev main_v412 : Ref sig .tc := ⟨.hbm, 576, rfl⟩
abbrev main_v413 : Ref sig .tc := ⟨.hbm, 577, rfl⟩
abbrev main_v414 : Ref sig .tc := ⟨.hbm, 578, rfl⟩
abbrev main_v415 : Ref sig .tc := ⟨.hbm, 579, rfl⟩
abbrev main_v416 : Ref sig .tc := ⟨.hbm, 580, rfl⟩
abbrev main_v417 : Ref sig .tc := ⟨.hbm, 581, rfl⟩
abbrev main_v418 : Ref sig .tc := ⟨.hbm, 582, rfl⟩
abbrev main_v419 : Ref sig .tc := ⟨.hbm, 583, rfl⟩
abbrev main_cst_105 : Ref sig .tc := ⟨.hbm, 584, rfl⟩
abbrev main_v420 : Ref sig .tc := ⟨.hbm, 585, rfl⟩
abbrev main_v421 : Ref sig .tc := ⟨.hbm, 586, rfl⟩
abbrev main_c_106 : Ref sig .tc := ⟨.hbm, 587, rfl⟩
abbrev main_c_107 : Ref sig .tc := ⟨.hbm, 588, rfl⟩
abbrev main_call14_v0 : Ref sig .tc := ⟨.hbm, 589, rfl⟩
abbrev main_call14_v1 : Ref sig .tc := ⟨.hbm, 590, rfl⟩
abbrev main_v422 : Ref sig .tc := ⟨.hbm, 591, rfl⟩
abbrev main_v423 : Ref sig .tc := ⟨.hbm, 592, rfl⟩
abbrev main_v424 : Ref sig .tc := ⟨.hbm, 593, rfl⟩
abbrev main_values : Ref sig .tc := ⟨.hbm, 594, rfl⟩
abbrev main_indices : Ref sig .tc := ⟨.hbm, 595, rfl⟩
abbrev main_v425 : Ref sig .tc := ⟨.hbm, 596, rfl⟩
abbrev main_v426 : Ref sig .tc := ⟨.hbm, 597, rfl⟩
abbrev main_v427 : Ref sig .tc := ⟨.hbm, 598, rfl⟩
abbrev main_v428 : Ref sig .tc := ⟨.hbm, 599, rfl⟩
abbrev main_v429 : Ref sig .tc := ⟨.hbm, 600, rfl⟩
abbrev main_v430 : Ref sig .tc := ⟨.hbm, 601, rfl⟩
abbrev main_v431 : Ref sig .tc := ⟨.hbm, 602, rfl⟩
abbrev main_v432 : Ref sig .tc := ⟨.hbm, 603, rfl⟩
abbrev main_v433 : Ref sig .tc := ⟨.hbm, 604, rfl⟩
abbrev main_v434 : Ref sig .tc := ⟨.hbm, 605, rfl⟩
abbrev main_v435 : Ref sig .tc := ⟨.hbm, 606, rfl⟩
abbrev main_v436 : Ref sig .tc := ⟨.hbm, 607, rfl⟩
abbrev main_v437 : Ref sig .tc := ⟨.hbm, 608, rfl⟩
abbrev main_v438 : Ref sig .tc := ⟨.hbm, 609, rfl⟩
abbrev main_v439 : Ref sig .tc := ⟨.hbm, 610, rfl⟩
abbrev main_v440 : Ref sig .tc := ⟨.hbm, 611, rfl⟩
abbrev main_c_108 : Ref sig .tc := ⟨.hbm, 612, rfl⟩
abbrev main_v441 : Ref sig .tc := ⟨.hbm, 613, rfl⟩
abbrev main_v442 : Ref sig .tc := ⟨.hbm, 614, rfl⟩
abbrev main_c_109 : Ref sig .tc := ⟨.hbm, 615, rfl⟩
abbrev main_v443 : Ref sig .tc := ⟨.hbm, 616, rfl⟩
abbrev main_c_110 : Ref sig .tc := ⟨.hbm, 617, rfl⟩
abbrev main_v444 : Ref sig .tc := ⟨.hbm, 618, rfl⟩
abbrev main_v445 : Ref sig .tc := ⟨.hbm, 619, rfl⟩
abbrev main_cst_111 : Ref sig .tc := ⟨.hbm, 620, rfl⟩
abbrev main_call15_v0 : Ref sig .tc := ⟨.hbm, 621, rfl⟩
abbrev main_call15_v1 : Ref sig .tc := ⟨.hbm, 622, rfl⟩
abbrev main_v446 : Ref sig .tc := ⟨.hbm, 623, rfl⟩
abbrev main_v447 : Ref sig .tc := ⟨.hbm, 624, rfl⟩
abbrev main_values_112 : Ref sig .tc := ⟨.hbm, 625, rfl⟩
abbrev main_indices_113 : Ref sig .tc := ⟨.hbm, 626, rfl⟩
abbrev main_v448 : Ref sig .tc := ⟨.hbm, 627, rfl⟩
abbrev main_v449 : Ref sig .tc := ⟨.hbm, 628, rfl⟩
abbrev main_v450 : Ref sig .tc := ⟨.hbm, 629, rfl⟩
abbrev main_v451 : Ref sig .tc := ⟨.hbm, 630, rfl⟩
abbrev main_v452 : Ref sig .tc := ⟨.hbm, 631, rfl⟩
abbrev main_v453 : Ref sig .tc := ⟨.hbm, 632, rfl⟩
abbrev main_call16_v0 : Ref sig .tc := ⟨.hbm, 633, rfl⟩
abbrev main_v454 : Ref sig .tc := ⟨.hbm, 634, rfl⟩

abbrev nD : Nat := 1
abbrev τ : Topo := Topo.v7x

variable {F : FTy → Type} [FloatOps F]
-- ==== Proof.KernelBlock.lean ====
/- What one grid step of the kernel leaves in its two output blocks, as functions of the five input blocks: the
   cost block and the match block. Holds at every float instance. -/
module

public import proofs.«01_k».proof.Proof.Gen.KernelIdeal.Frame
public import Idealize.ShloMosaic.Lib.Pipeline.Value

@[expose] public section
set_option maxRecDepth 16384
noncomputable section

namespace Cert.KernelIdeal.Val

open Cert.KernelIdeal Cert.KernelIdeal.Gen
open Idealize.ShloMosaic Idealize.ShloMosaic.TcCoe Idealize.ShloMosaic.Tactic
open Idealize.SL.Sem

variable {F : FTy → Type} [FloatOps F]

/-- The row of labels the kernel reads: image 0's. -/
def labelRow (x2 : Vec F S8x128 .i32) : Vec F S1x128 .i32 :=
  View.ld x2 (Rect.unit ![0, 0] ![1, 128] inb_S8x128_S1x128_0_0)

/-- Coordinate 0 of image 0's target boxes. -/
def tgt0 (x3 : Vec F S8x4x128 .f32) : Vec F S1x1x128 .f32 :=
  View.ld x3 (Rect.unit ![0, 0, 0] ![1, 1, 128] inb_S8x4x128_S1x1x128_0_0_0)

/-- Coordinate 1 of image 0's target boxes. -/
def tgt1 (x3 : Vec F S8x4x128 .f32) : Vec F S1x1x128 .f32 :=
  View.ld x3 (Rect.unit ![0, 1, 0] ![1, 1, 128] inb_S8x4x128_S1x1x128_0_1_0)

/-- Coordinate 2 of image 0's target boxes. -/
def tgt2 (x3 : Vec F S8x4x128 .f32) : Vec F S1x1x128 .f32 :=
  View.ld x3 (Rect.unit ![0, 2, 0] ![1, 1, 128] inb_S8x4x128_S1x1x128_0_2_0)

/-- Coordinate 3 of image 0's target boxes. -/
def tgt3 (x3 : Vec F S8x4x128 .f32) : Vec F S1x1x128 .f32 :=
  View.ld x3 (Rect.unit ![0, 3, 0] ![1, 1, 128] inb_S8x4x128_S1x1x128_0_3_0)

/-- The L1 box cost of the block. -/
def kBox (x1 : Vec F S1x900x4 .f32) (x3 : Vec F S8x4x128 .f32) : FVec F S900x128 .f32 :=
  k0_pay13 (k0_pay5 x1) (k0_pay6 x1) (k0_pay7 x1) (k0_pay8 x1) (tgt0 x3) (tgt1 x3) (tgt2 x3) (tgt3 x3)

/-- The negated generalized overlap of the block. -/
def kGiou (x1 : Vec F S1x900x4 .f32) (x3 : Vec F S8x4x128 .f32) : FVec F S900x128 .f32 :=
  k0_pay28 (k0_pay16 (k0_pay5 x1) (k0_pay7 x1)) (k0_pay17 (k0_pay6 x1) (k0_pay8 x1))
    (k0_pay18 (k0_pay5 x1) (k0_pay7 x1)) (k0_pay19 (k0_pay6 x1) (k0_pay8 x1))
    (k0_pay22 (tgt0 x3) (tgt2 x3)) (k0_pay23 (tgt1 x3) (tgt3 x3))
    (k0_pay24 (tgt0 x3) (tgt2 x3)) (k0_pay25 (tgt1 x3) (tgt3 x3))
    (k0_pay26 (k0_pay5 x1) (k0_pay6 x1) (k0_pay7 x1) (k0_pay8 x1)) (k0_pay27 (tgt0 x3) (tgt2 x3))

/-- The normalised density map of the block. -/
def kDn (x4 : Vec F S1x256x256 .f32) : FVec F S256x256 .f32 :=
  k0_pay31 (k0_pay29 x4) (k0_pay30 x4) (FloatOps.ofBits FTy.f32 897988541#32)

/-- The cost block. -/
def kCost (x0 : Vec F S1x900x91 .f32) (x1 : Vec F S1x900x4 .f32) (x2 : Vec F S8x128 .i32)
    (x3 : Vec F S8x4x128 .f32) (x4 : Vec F S1x256x256 .f32) : FVec F S900x128 .f32 :=
  k0_pay35 (k0_pay3 x0 (labelRow x2)) (kBox x1 x3) (kGiou x1 x3) (kDn x4) (k0_pay33 (k0_pay6 x1))
    (k0_pay34 (k0_pay5 x1)) (constant S900x256 FTy.f32 0#32)

/-- Per column, the bit that marks the first row holding the column's least value. -/
def selOf (w : FVec F S900x128 .f32) : IVec S900x128 1 :=
  cmpi .eq (iota .tc S900x128 32 [0] iota_S900x128_d0_w32)
    (broadcastTo S900x128 (shapeCast S1x128 (multiReductionI .minsi [0] S128
      (select (cmpf .oeq w (broadcastTo S900x128 (shapeCast S1x128
          (multiReduction .minimumf [0] S128 w 0x7F800000#32 reduces_S900x128_S128 (.inl rfl) rfl)
          shapeCasts_S128_S1x128) broadcasts_S1x128_S900x128))
        (iota .tc S900x128 32 [0] iota_S900x128_d0_w32) (broadcast S900x128 900#32))
      2147483647#32 reduces_S900x128_S128 rfl) shapeCasts_S128_S1x128) broadcasts_S1x128_S900x128)

/-- The columns with their first least entry struck out. -/
def markOf (w : FVec F S900x128 .f32) : FVec F S900x128 .f32 :=
  select (selOf w) (broadcast S900x128 (Scalar.ofBits .f32 0x7F800000#32)) w

/-- One round's matches added to those of the rounds before. -/
def addRound (kvec : IVec S1x128 32) (s : BitVec 32) (mm w : FVec F S900x128 .f32) : FVec F S900x128 .f32 :=
  maximumf mm (select (andi (selOf w) (broadcastTo S900x128 (cmpi .sgt kvec (broadcast S1x128 s)) broadcasts_S1x128_S900x128))
    (broadcast S900x128 (Scalar.ofBits .f32 0x3F800000#32)) (broadcast S900x128 (Scalar.ofBits .f32 0x00000000#32)))

/-- The matches after the six rounds. -/
def roundsOf (C : FVec F S900x128 .f32) (kvec : IVec S1x128 32) : FVec F S900x128 .f32 :=
  addRound kvec 5#32 (addRound kvec 4#32 (addRound kvec 3#32 (addRound kvec 2#32 (addRound kvec 1#32
    (addRound kvec 0#32 (broadcast S900x128 (Scalar.ofBits .f32 0x00000000#32)) C) (markOf C)) (markOf (markOf C)))
    (markOf (markOf (markOf C)))) (markOf (markOf (markOf (markOf C))))) (markOf (markOf (markOf (markOf (markOf C)))))

/-- Rows matched more than once keep only their cheapest match. -/
def resolveOf (C mm : FVec F S900x128 .f32) : FVec F S900x128 .f32 :=
  have masked : FVec F S900x128 .f32 := select (cmpf .ogt mm (broadcast S900x128 (Scalar.ofBits .f32 0x3F000000#32))) C
    (broadcast S900x128 (Scalar.ofBits .f32 0x7F800000#32))
  select (broadcastTo S900x128 (shapeCast S900x1 (cmpf .ogt (shapeCast S900x1
      (multiReduction .add [1] S900 mm 0x00000000#32 reduces_S900x128_S900 (.inl rfl) rfl) shapeCasts_S900_S900x1)
      (broadcast S900x1 (Scalar.ofBits .f32 0x3FC00000#32))) shapeCasts_S900x1_S900x1) broadcasts_S900x1_S900x128)
    (select (cmpi .eq (iota .tc S900x128 32 [1] iota_S900x128_d1_w32) (broadcastTo S900x128 (shapeCast S900x1
        (multiReductionI .minsi [1] S900 (select (cmpf .oeq masked (broadcastTo S900x128 (shapeCast S900x1
          (multiReduction .minimumf [1] S900 masked 0x7F800000#32 reduces_S900x128_S900 (.inl rfl) rfl)
          shapeCasts_S900_S900x1) broadcasts_S900x1_S900x128))
          (iota .tc S900x128 32 [1] iota_S900x128_d1_w32) (broadcast S900x128 128#32))
          2147483647#32 reduces_S900x128_S900 rfl) shapeCasts_S900_S900x1) broadcasts_S900x1_S900x128))
      (broadcast S900x128 (Scalar.ofBits .f32 0x3F800000#32)) (broadcast S900x128 (Scalar.ofBits .f32 0x00000000#32))) mm

/-- The printed match stage is the six rounds and their resolution. -/
theorem match_eq (C : FVec F S900x128 .f32) (v : IVec S1x128 32) :
    k0_pay51 C v (iota .tc S900x128 32 [0] iota_S900x128_d0_w32)
      (k0_pay47 (iota .tc S900x128 32 [0] iota_S900x128_d0_w32) (markOf (markOf C)) (selOf (markOf (markOf C))))
      (k0_pay48 (iota .tc S900x128 32 [0] iota_S900x128_d0_w32) (markOf (markOf C)) (selOf (markOf (markOf C))))
      (k0_pay49 v (iota .tc S900x128 32 [0] iota_S900x128_d0_w32)
        (k0_pay41 C v (iota .tc S900x128 32 [0] iota_S900x128_d0_w32) k0_pay37 (selOf C) 0#32)
        (markOf (markOf C)) (selOf (markOf (markOf C)))
        (k0_pay44 C v (iota .tc S900x128 32 [0] iota_S900x128_d0_w32) (selOf C))
        (FloatOps.ofBits .f32 0x3F800000#32) (FloatOps.ofBits .f32 0x00000000#32))
      k0_pay50 = resolveOf C (roundsOf C v) := rfl

theorem pay42_eq (C : FVec F S900x128 .f32) :
    k0_pay42 C (iota .tc S900x128 32 [0] iota_S900x128_d0_w32) (selOf C) = markOf (markOf C) := rfl

theorem pay43_eq (C : FVec F S900x128 .f32) :
    k0_pay43 C (iota .tc S900x128 32 [0] iota_S900x128_d0_w32) (selOf C) = selOf (markOf (markOf C)) := rfl

theorem pay38_eq (a b d : FVec F S900x128 .f32) (e : FVec F S256x256 .f32) (f g h : FVec F S900x256 .f32) :
    k0_pay38 a b d e f g h = selOf (k0_pay35 a b d e f g h) := rfl

theorem off3 : (![0, 0, 0] : Fin 3 → Nat) = fun _ => 0 := by
  funext i; fin_cases i <;> rfl

/-- The targets per image the areas are read from: width and height of image `i`. -/
def areaRow (i : grid0.Coords) (x3 : Vec F S8x4x128 .f32) : IVec S1x128 32 :=
  k0_pay36 (View.ld x3 (Rect.unit (s := S8x4x128) (k0_off1 i) S1x1x128.size (k0_off1_inb i)))
    (View.ld x3 (Rect.unit (s := S8x4x128) (k0_off2 i) S1x1x128.size (k0_off2_inb i)))

variable (m : (ℓ : Loc nD τ sig) → Buf (Elt F) ℓ)

theorem out6_eq (c : Dev nD) (t : Fin cfg0.N) : (outsAt0 m c t).2
    = k0_pay2 (kCost (iblk m c 0 t) (iblk m c 1 t) (iblk m c 2 t) (iblk m c 3 t) (iblk m c 4 t)) := by
  unfold outsAt0 out0_A_6
  dsimp only
  rw [View.read_writes_eq_canon _ _ _ (cover0_A_6 c _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, View.canon_unit_zero (S := S1x900x128) off3, View.ld_unit_zero (S := S1x900x91) off3, View.ld_unit_zero (S := S1x900x4) off3, View.ld_unit_zero (S := S1x256x256) off3]
  rfl

theorem out5_eq (c : Dev nD) (t : Fin cfg0.N) : (outsAt0 m c t).1
    = k0_pay1 (resolveOf (kCost (iblk m c 0 t) (iblk m c 1 t) (iblk m c 2 t) (iblk m c 3 t) (iblk m c 4 t))
        (roundsOf (kCost (iblk m c 0 t) (iblk m c 1 t) (iblk m c 2 t) (iblk m c 3 t) (iblk m c 4 t))
          (areaRow (grid0.coords t) (iblk m c 3 t)))) (FloatOps.ofBits .f32 0x3F000000#32) := by
  unfold outsAt0 out0_A_5
  dsimp only
  rw [View.read_writes_eq_canon _ _ _ (cover0_A_5 c _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, View.canon_unit_zero (S := S1x900x128) off3, View.ld_unit_zero (S := S1x900x91) off3, View.ld_unit_zero (S := S1x900x4) off3, View.ld_unit_zero (S := S1x256x256) off3]
  simp only [pay38_eq]
  generalize hC : k0_pay35 (F := F) _ _ _ _ _ _ _ = C
  have hC' : kCost (iblk m c 0 t) (iblk m c 1 t) (iblk m c 2 t) (iblk m c 3 t) (iblk m c 4 t) = C := hC
  rw [hC']
  exact congrArg (fun v => k0_pay1 v (FloatOps.ofBits .f32 0x3F000000#32)) (match_eq C (areaRow (grid0.coords t) (iblk m c 3 t)))

end Cert.KernelIdeal.Val
end
-- ==== Proof.KernelRun.lean ====
/- The kernel's run: what the two result arrays hold at the end, index by index, as functions of the argument arrays. -/
module

public import proofs.«01_k».proof.Proof.KernelBlock
public import Idealize.ShloMosaic.Lib.ValueIdx
public import Idealize.ShloMosaic.Lib.ValueLayoutCasts

@[expose] public section
set_option maxRecDepth 16384
noncomputable section

namespace Cert.KernelIdeal.Val

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]
variable (m : (ℓ : Loc nD τ sig) → Buf (Elt F) ℓ) (ρ : Dev nD → PrngReg)

/-- Image `b` of the logits. -/
def blkLogits (x : Vec F S8x900x91 .f32) (b : Fin 8) : Vec F S1x900x91 .f32 := fun j => x (ix3 b (j 1) (j 2))
/-- Image `b` of the predicted boxes. -/
def blkBoxes (x : Vec F S8x900x4 .f32) (b : Fin 8) : Vec F S1x900x4 .f32 := fun j => x (ix3 b (j 1) (j 2))
/-- The target boxes, coordinates before targets. -/
def tgtT (x : Vec F S8x128x4 .f32) : Vec F S8x4x128 .f32 := fun j => x (ix3 (j 0) (j 2) (j 1))
/-- Image `b` of the density map. -/
def blkMap (x : Vec F S8x1x256x256 .f32) (b : Fin 8) : Vec F S1x256x256 .f32 := fun j => x (ix4 b 0 (j 1) (j 2))

/-- Image `b`'s costs. -/
def costOf (x0 : Vec F S8x900x91 .f32) (x1 : Vec F S8x900x4 .f32) (x2 : Vec F S8x128 .i32) (x3 : Vec F S8x128x4 .f32)
    (x4 : Vec F S8x1x256x256 .f32) (b : Fin 8) : FVec F S900x128 .f32 :=
  kCost (blkLogits x0 b) (blkBoxes x1 b) x2 (tgtT x3) (blkMap x4 b)

/-- How many rows each target of image `b` takes. -/
def countOf (x3 : Vec F S8x128x4 .f32) (b : Fin 8) : IVec S1x128 32 :=
  k0_pay36 (fun j => x3 (ix3 b (j 2) 2)) (fun j => x3 (ix3 b (j 2) 3))

/-- The cost array. -/
def outCost (x0 : Vec F S8x900x91 .f32) (x1 : Vec F S8x900x4 .f32) (x2 : Vec F S8x128 .i32) (x3 : Vec F S8x128x4 .f32)
    (x4 : Vec F S8x1x256x256 .f32) : FVec F S8x900x128 .f32 := fun i =>
  k0_pay2 (costOf x0 x1 x2 x3 x4 (i 0)) (ix3 0 (i 1) (i 2))

/-- The match array as the pipeline leaves it: words 0 and 1. -/
def outWord (x0 : Vec F S8x900x91 .f32) (x1 : Vec F S8x900x4 .f32) (x2 : Vec F S8x128 .i32) (x3 : Vec F S8x128x4 .f32)
    (x4 : Vec F S8x1x256x256 .f32) : IVec S8x900x128 32 := fun i =>
  k0_pay1 (resolveOf (costOf x0 x1 x2 x3 x4 (i 0)) (roundsOf (costOf x0 x1 x2 x3 x4 (i 0)) (countOf x3 (i 0))))
    (FloatOps.ofBits .f32 0x3F000000#32) (ix3 0 (i 1) (i 2))

/-- The match array: whether the word is not zero. -/
def outMatch (x0 : Vec F S8x900x91 .f32) (x1 : Vec F S8x900x4 .f32) (x2 : Vec F S8x128 .i32) (x3 : Vec F S8x128x4 .f32)
    (x4 : Vec F S8x1x256x256 .f32) : IVec S8x900x128 1 :=
  cmpi .ne (outWord x0 x1 x2 x3 x4) (broadcastInDim S8x900x128 ![] bcast_S_S8x900x128 (constantI S_ 32 0#32))

/-! ## The input blocks -/

/-- A grid point is an image. -/
def img (t : Fin cfg0.N) : Fin 8 := ⟨t.val, by have h := t.isLt; have e : cfg0.N = 8 := N_0; omega⟩

theorem V_tgt (c : Dev nD) : V m c main_call0_v0 = tgtT (m ((c : Thread nD τ).loc main_arg3)) := by
  show StableHlo.after (List.flatten [hostOps0]) (fun b => m (c, b)) (Proc.devRef .tc main_call0_v0) = _
  simp only [hostOps0, List.flatten_cons, List.flatten_nil, List.append_nil]
  after_results_simp
  funext j
  exact transpose_apply _ _ _ _ _ (fun b => by fin_cases b <;> rfl)

theorem V_map (c : Dev nD) : V m c main_call0_v1 = fun j => m ((c : Thread nD τ).loc main_arg4) (ix4 (j 0) 0 (j 1) (j 2)) := by
  show StableHlo.after (List.flatten [hostOps0]) (fun b => m (c, b)) (Proc.devRef .tc main_call0_v1) = _
  simp only [hostOps0, List.flatten_cons, List.flatten_nil, List.append_nil]
  after_results_simp
  funext j
  refine shapeCast_apply _ _ _ _ ?_
  show (S8x1x256x256.rowMajor _ : Nat) = (S8x256x256.rowMajor j : Nat)
  rw [Shape.rowMajor_val_four, Shape.rowMajor_val_three]
  simp [ix4]

theorem idx0 : ∀ t : Fin cfg0.N, ∀ a : Fin 3, win0_0.index t a * win0_0.size a = if a = 0 then t.val else 0 := by decide +kernel
theorem idx1 : ∀ t : Fin cfg0.N, ∀ a : Fin 3, win0_1.index t a * win0_1.size a = if a = 0 then t.val else 0 := by decide +kernel
theorem idx2 : ∀ t : Fin cfg0.N, ∀ a : Fin 2, win0_2.index t a * win0_2.size a = 0 := by decide +kernel
theorem idx3 : ∀ t : Fin cfg0.N, ∀ a : Fin 3, win0_3.index t a * win0_3.size a = 0 := by decide +kernel
theorem idx4 : ∀ t : Fin cfg0.N, ∀ a : Fin 3, win0_4.index t a * win0_4.size a = if a = 0 then t.val else 0 := by decide +kernel
theorem idx5 : ∀ t : Fin cfg0.N, ∀ a : Fin 3, win0_5.index t a * win0_5.size a = if a = 0 then t.val else 0 := by decide +kernel
theorem idx6 : ∀ t : Fin cfg0.N, ∀ a : Fin 3, win0_6.index t a * win0_6.size a = if a = 0 then t.val else 0 := by decide +kernel

theorem iblk0 (c : Dev nD) (t : Fin cfg0.N) :
    (iblk m c 0 t : Vec F S1x900x91 .f32) = blkLogits (m ((c : Thread nD τ).loc main_arg0)) (img t) := by
  funext j
  show V m c main_arg0 ((win0_0.rect t).emb j) = _
  rw [V_main_arg0]
  refine congrArg (m ((c : Thread nD τ).loc main_arg0)) (funext fun a => Fin.ext ?_)
  have h0 : (j 0 : Nat) < 1 := (j 0).isLt
  fin_cases a
  · show win0_0.index t 0 * win0_0.size 0 + 1 * (j 0 : Nat) = t.val
    rw [idx0]; simp; omega
  · show win0_0.index t 1 * win0_0.size 1 + 1 * (j 1 : Nat) = (j 1 : Nat)
    rw [idx0]; simp
  · show win0_0.index t 2 * win0_0.size 2 + 1 * (j 2 : Nat) = (j 2 : Nat)
    rw [idx0]; simp

theorem iblk1 (c : Dev nD) (t : Fin cfg0.N) :
    (iblk m c 1 t : Vec F S1x900x4 .f32) = blkBoxes (m ((c : Thread nD τ).loc main_arg1)) (img t) := by
  funext j
  show V m c main_arg1 ((win0_1.rect t).emb j) = _
  rw [V_main_arg1]
  refine congrArg (m ((c : Thread nD τ).loc main_arg1)) (funext fun a => Fin.ext ?_)
  have h0 : (j 0 : Nat) < 1 := (j 0).isLt
  fin_cases a
  · show win0_1.index t 0 * win0_1.size 0 + 1 * (j 0 : Nat) = t.val
    rw [idx1]; simp; omega
  · show win0_1.index t 1 * win0_1.size 1 + 1 * (j 1 : Nat) = (j 1 : Nat)
    rw [idx1]; simp
  · show win0_1.index t 2 * win0_1.size 2 + 1 * (j 2 : Nat) = (j 2 : Nat)
    rw [idx1]; simp

theorem iblk2 (c : Dev nD) (t : Fin cfg0.N) :
    (iblk m c 2 t : Vec F S8x128 .i32) = m ((c : Thread nD τ).loc main_arg2) := by
  funext j
  show V m c main_arg2 ((win0_2.rect t).emb j) = _
  rw [V_main_arg2]
  refine congrArg (m ((c : Thread nD τ).loc main_arg2)) (funext fun a => Fin.ext ?_)
  show win0_2.index t a * win0_2.size a + 1 * (j a : Nat) = _
  rw [idx2]
  omega

theorem iblk3 (c : Dev nD) (t : Fin cfg0.N) :
    (iblk m c 3 t : Vec F S8x4x128 .f32) = tgtT (m ((c : Thread nD τ).loc main_arg3)) := by
  funext j
  show V m c main_call0_v0 ((win0_3.rect t).emb j) = _
  rw [V_tgt]
  refine congrArg (tgtT (m ((c : Thread nD τ).loc main_arg3))) (funext fun a => Fin.ext ?_)
  show win0_3.index t a * win0_3.size a + 1 * (j a : Nat) = _
  rw [idx3]
  omega

theorem iblk4 (c : Dev nD) (t : Fin cfg0.N) :
    (iblk m c 4 t : Vec F S1x256x256 .f32) = blkMap (m ((c : Thread nD τ).loc main_arg4)) (img t) := by
  funext j
  show V m c main_call0_v1 ((win0_4.rect t).emb j) = _
  rw [V_map]
  refine congrArg (m ((c : Thread nD τ).loc main_arg4)) ?_
  have e : ∀ a : Fin 3, ((win0_4.rect t).emb j a : Nat) = (if a = 0 then t.val else 0) + 1 * (j a : Nat) := fun a => by
    rw [← idx4]; rfl
  have h0 : (j 0 : Nat) < 1 := (j 0).isLt
  funext a
  refine Fin.ext ?_
  fin_cases a
  · show ((win0_4.rect t).emb j 0 : Nat) = t.val
    rw [e]; simp; omega
  · rfl
  · show ((win0_4.rect t).emb j 1 : Nat) = (j 1 : Nat)
    rw [e]; simp
  · show ((win0_4.rect t).emb j 2 : Nat) = (j 2 : Nat)
    rw [e]; simp

theorem off1_eq : ∀ t : Fin cfg0.N, ∀ a : Fin 3, k0_off1 (grid0.coords t) a = if a = 0 then t.val else if a = 1 then 2 else 0 := by
  decide +kernel
theorem off2_eq : ∀ t : Fin cfg0.N, ∀ a : Fin 3, k0_off2 (grid0.coords t) a = if a = 0 then t.val else if a = 1 then 3 else 0 := by
  decide +kernel

theorem areaRow_eq (t : Fin cfg0.N) (x : Vec F S8x128x4 .f32) :
    areaRow (grid0.coords t) (tgtT x) = countOf x (img t) := by
  unfold areaRow countOf
  congr 1
  · funext j
    have h0 : (j 0 : Nat) < 1 := (j 0).isLt
    have h1 : (j 1 : Nat) < 1 := (j 1).isLt
    refine congrArg x (funext fun a => Fin.ext ?_)
    fin_cases a
    · show k0_off1 (grid0.coords t) 0 + 1 * (j 0 : Nat) = t.val
      rw [off1_eq]; simp; omega
    · show k0_off1 (grid0.coords t) 2 + 1 * (j 2 : Nat) = (j 2 : Nat)
      rw [off1_eq]; simp
    · show k0_off1 (grid0.coords t) 1 + 1 * (j 1 : Nat) = 2
      rw [off1_eq]; simp; omega
  · funext j
    have h0 : (j 0 : Nat) < 1 := (j 0).isLt
    have h1 : (j 1 : Nat) < 1 := (j 1).isLt
    refine congrArg x (funext fun a => Fin.ext ?_)
    fin_cases a
    · show k0_off2 (grid0.coords t) 0 + 1 * (j 0 : Nat) = t.val
      rw [off2_eq]; simp; omega
    · show k0_off2 (grid0.coords t) 2 + 1 * (j 2 : Nat) = (j 2 : Nat)
      rw [off2_eq]; simp
    · show k0_off2 (grid0.coords t) 1 + 1 * (j 1 : Nat) = 3
      rw [off2_eq]; simp; omega

/-! ## The output arrays -/

/-- The cost array of device `c`'s arguments. -/
abbrev costArr (c : Dev nD) : FVec F S8x900x128 .f32 :=
  outCost (m ((c : Thread nD τ).loc main_arg0)) (m ((c : Thread nD τ).loc main_arg1)) (m ((c : Thread nD τ).loc main_arg2))
    (m ((c : Thread nD τ).loc main_arg3)) (m ((c : Thread nD τ).loc main_arg4))
/-- The array of match words of device `c`'s arguments. -/
abbrev wordArr (c : Dev nD) : IVec S8x900x128 32 :=
  outWord (m ((c : Thread nD τ).loc main_arg0)) (m ((c : Thread nD τ).loc main_arg1)) (m ((c : Thread nD τ).loc main_arg2))
    (m ((c : Thread nD τ).loc main_arg3)) (m ((c : Thread nD τ).loc main_arg4))
/-- The match array of device `c`'s arguments. -/
abbrev matchArr (c : Dev nD) : IVec S8x900x128 1 :=
  outMatch (m ((c : Thread nD τ).loc main_arg0)) (m ((c : Thread nD τ).loc main_arg1)) (m ((c : Thread nD τ).loc main_arg2))
    (m ((c : Thread nD τ).loc main_arg3)) (m ((c : Thread nD τ).loc main_arg4))

theorem emb6 (t : Fin cfg0.N) (j : S1x900x128.Idx) :
    ((win0_6.rect t).emb j : S8x900x128.Idx) = ix3 (img t) (j 1) (j 2) := by
  have h0 : (j 0 : Nat) < 1 := (j 0).isLt
  refine funext fun a => Fin.ext ?_
  fin_cases a
  · show win0_6.index t 0 * win0_6.size 0 + 1 * (j 0 : Nat) = t.val
    rw [idx6]; simp; omega
  · show win0_6.index t 1 * win0_6.size 1 + 1 * (j 1 : Nat) = (j 1 : Nat)
    rw [idx6]; simp
  · show win0_6.index t 2 * win0_6.size 2 + 1 * (j 2 : Nat) = (j 2 : Nat)
    rw [idx6]; simp

theorem emb5 (t : Fin cfg0.N) (j : S1x900x128.Idx) :
    ((win0_5.rect t).emb j : S8x900x128.Idx) = ix3 (img t) (j 1) (j 2) := by
  have h0 : (j 0 : Nat) < 1 := (j 0).isLt
  refine funext fun a => Fin.ext ?_
  fin_cases a
  · show win0_5.index t 0 * win0_5.size 0 + 1 * (j 0 : Nat) = t.val
    rw [idx5]; simp; omega
  · show win0_5.index t 1 * win0_5.size 1 + 1 * (j 1 : Nat) = (j 1 : Nat)
    rw [idx5]; simp
  · show win0_5.index t 2 * win0_5.size 2 + 1 * (j 2 : Nat) = (j 2 : Nat)
    rw [idx5]; simp

theorem unit_ix (j : S1x900x128.Idx) : (ix3 0 (j 1) (j 2) : S1x900x128.Idx) = j := by
  have h0 : (j 0 : Nat) < 1 := (j 0).isLt
  refine funext fun a => Fin.ext ?_
  fin_cases a
  · show 0 = (j 0 : Nat); omega
  · rfl
  · rfl

theorem flushed6 (c : Dev nD) (t : Fin cfg0.N) :
    (dats m 0 c).flushed 6 t = (win0_6.blk t).view.read (Elt F) (costArr m c) := by
  show (cfg0.win 6).cut (grid0.coords t) ((dats m 0 c).after 6 t) = _
  rw [after0_6, out6_eq, iblk0, iblk1, iblk2, iblk3, iblk4]
  funext j
  show _ = costArr m c ((win0_6.rect t).emb j)
  rw [emb6]
  show k0_pay2 (costOf _ _ _ _ _ (img t)) j = k0_pay2 (costOf _ _ _ _ _ (img t)) (ix3 0 (j 1) (j 2))
  rw [unit_ix]

theorem flushed5 (c : Dev nD) (t : Fin cfg0.N) :
    (dats m 0 c).flushed 5 t = (win0_5.blk t).view.read (Elt F) (wordArr m c) := by
  show (cfg0.win 5).cut (grid0.coords t) ((dats m 0 c).after 5 t) = _
  rw [after0_5, out5_eq, iblk0, iblk1, iblk2, iblk3, iblk4, areaRow_eq]
  funext j
  show _ = wordArr m c ((win0_5.rect t).emb j)
  rw [emb5]
  show k0_pay1 (resolveOf (costOf _ _ _ _ _ (img t)) (roundsOf (costOf _ _ _ _ _ (img t)) (countOf _ (img t)))) _ j
    = k0_pay1 (resolveOf (costOf _ _ _ _ _ (img t)) (roundsOf (costOf _ _ _ _ _ (img t)) (countOf _ (img t)))) _ (ix3 0 (j 1) (j 2))
  rw [unit_ix]

theorem mem_blk6 (t : Fin cfg0.N) (i : S8x900x128.Idx) (h : (i 0 : Nat) = t.val) : i ∈ ((cfg0.win 6).blk t).view.set := by
  show i ∈ ((View.whole main_v0_1).slice (win0_6.rect t)).set
  rw [View.set_slice_whole, Rect.mem_set_unit]
  intro a
  show win0_6.index t a * win0_6.size a ≤ (i a : Nat)
    ∧ (i a : Nat) < win0_6.index t a * win0_6.size a + win0_6.xsize (grid0.coords t) a
  rw [idx6]
  have h1 : (i 1 : Nat) < 900 := (i 1).isLt
  have h2 : (i 2 : Nat) < 128 := (i 2).isLt
  fin_cases a
  · show t.val ≤ (i 0 : Nat) ∧ (i 0 : Nat) < t.val + 1
    omega
  · show 0 ≤ (i 1 : Nat) ∧ (i 1 : Nat) < 0 + 900
    omega
  · show 0 ≤ (i 2 : Nat) ∧ (i 2 : Nat) < 0 + 128
    omega

theorem cover6 (i : S8x900x128.Idx) : ∃ t : Fin cfg0.N, (cfg0.win 6).flush t = true ∧ i ∈ ((cfg0.win 6).blk t).view.set := by
  have h0 : (i 0 : Nat) < 8 := (i 0).isLt
  have hN : cfg0.N = 8 := N_0
  exact ⟨⟨(i 0).val, by omega⟩, flush0_6 _, mem_blk6 _ i rfl⟩

theorem mem_blk5 (t : Fin cfg0.N) (i : S8x900x128.Idx) (h : (i 0 : Nat) = t.val) : i ∈ ((cfg0.win 5).blk t).view.set := by
  show i ∈ ((View.whole main_call0_v2_0).slice (win0_5.rect t)).set
  rw [View.set_slice_whole, Rect.mem_set_unit]
  intro a
  show win0_5.index t a * win0_5.size a ≤ (i a : Nat)
    ∧ (i a : Nat) < win0_5.index t a * win0_5.size a + win0_5.xsize (grid0.coords t) a
  rw [idx5]
  have h1 : (i 1 : Nat) < 900 := (i 1).isLt
  have h2 : (i 2 : Nat) < 128 := (i 2).isLt
  fin_cases a
  · show t.val ≤ (i 0 : Nat) ∧ (i 0 : Nat) < t.val + 1
    omega
  · show 0 ≤ (i 1 : Nat) ∧ (i 1 : Nat) < 0 + 900
    omega
  · show 0 ≤ (i 2 : Nat) ∧ (i 2 : Nat) < 0 + 128
    omega

theorem cover5 (i : S8x900x128.Idx) : ∃ t : Fin cfg0.N, (cfg0.win 5).flush t = true ∧ i ∈ ((cfg0.win 5).blk t).view.set := by
  have h0 : (i 0 : Nat) < 8 := (i 0).isLt
  have hN : cfg0.N = 8 := N_0
  exact ⟨⟨(i 0).val, by omega⟩, flush0_5 _, mem_blk5 _ i rfl⟩

theorem final6 (c : Dev nD) : (dats m 0 c).arrAt 6 cfg0.N = costArr m c :=
  (dats m 0 c).arrAt_eq_of_cover 6 (costArr m c) (fun t _ => flushed6 m c t) cover6
theorem final5 (c : Dev nD) : (dats m 0 c).arrAt 5 cfg0.N = wordArr m c :=
  (dats m 0 c).arrAt_eq_of_cover 5 (wordArr m c) (fun t _ => flushed5 m c t) cover5

theorem tail_match (c : Dev nD) : Pipeline.afterTail₀ cfgs (dats m) 0 (V0 m) [hostOps1] c main_v0_0 = matchArr m c := by
  unfold Pipeline.afterTail₀
  simp only [hostOps1, List.flatten_cons, List.flatten_nil, List.append_nil]
  after_results_simp
  show cmpi .ne (Pipeline.withArrays spec0 c (V0 m c) (fun w => (dats m 0 c).arrAt w cfg0.N)
      (Proc.devRef .tc (Pipeline.arrRef spec0 5))) _ = _
  rw [Pipeline.withArrays_arr spec0 launch0.win.arr_inj]
  rw [final5]
  rfl

/-- The kernel's run: both results, the arguments unchanged. -/
theorem run : θ_run defs (onTc (τ := τ) (main (F := F))) ⟨m, fun _ => 0, ρ⟩ (fun r => ∀ c : Dev nD,
      r.2.mem ((c.tc : Thread nD τ).loc main_v0_0) = matchArr m c
      ∧ r.2.mem ((c.tc : Thread nD τ).loc main_v0_1) = costArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v0_0 (Pipeline.mem_restRefs_of main_v0_0 (by decide) (by decide))).trans (tail_match m c),
      ((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Val
end
-- ==== Proof.Pick.lean ====
/- Repeated selection of the least entry: taking the first least entry of a finite row, striking it out, and taking the
   next, against the stable sort of the row. -/
module

public import Idealize.ShloMosaic.Lib.SortPrefix
public import Idealize.ShloMosaic.Lib.ValueIdx
public import Idealize.ShloMosaic.PureOps.Ideal.Laws

@[expose] public section
noncomputable section

namespace Matcher

open Idealize.ShloMosaic Idealize.ShloMosaic.ValueIdx

variable {N : ℕ} [NeZero N]

/-- A finite row has a first least entry. -/
theorem exists_pick (w : Fin N → EReal) : ∃ q, (∀ p, w q ≤ w p) ∧ ∀ p, p < q → w q < w p := by
  obtain ⟨q0, h0⟩ := Finite.exists_min w
  have hne : (Finset.univ.filter fun q => w q = w q0).Nonempty := ⟨q0, by simp⟩
  refine ⟨(Finset.univ.filter fun q => w q = w q0).min' hne, ?_, ?_⟩
  · intro p
    have := Finset.min'_mem _ hne
    rw [Finset.mem_filter] at this
    rw [this.2]; exact h0 p
  · intro p hp
    have hm := Finset.min'_mem _ hne
    rw [Finset.mem_filter] at hm
    rw [hm.2]
    refine lt_of_le_of_ne (h0 p) fun e => ?_
    have := Finset.min'_le (Finset.univ.filter fun q => w q = w q0) p (by simp [e])
    exact absurd hp (not_lt.mpr this)

/-- The position of the first least entry. -/
def pick (w : Fin N → EReal) : Fin N := (exists_pick w).choose

theorem pick_le (w : Fin N → EReal) (p : Fin N) : w (pick w) ≤ w p := (exists_pick w).choose_spec.1 p
theorem pick_lt (w : Fin N → EReal) (p : Fin N) (h : p < pick w) : w (pick w) < w p := (exists_pick w).choose_spec.2 p h

theorem eq_pick (w : Fin N → EReal) (q : Fin N) (h1 : ∀ p, w q ≤ w p) (h2 : ∀ p, p < q → w q < w p) : q = pick w := by
  rcases lt_trichotomy q (pick w) with h | h | h
  · exact absurd (pick_lt w q h) (not_lt.mpr (h1 _))
  · exact h
  · exact absurd (h2 _ h) (not_lt.mpr (pick_le w q))

/-- The row with its first least entry struck out. -/
def strike (w : Fin N → EReal) : Fin N → EReal := fun q => if q = pick w then ⊤ else w q

/-- The row after `s` strikes. -/
def struck (w : Fin N → EReal) : ℕ → Fin N → EReal
  | 0 => w
  | s + 1 => strike (struck w s)

/-- The position taken in round `s`. -/
def nth (w : Fin N → EReal) (s : ℕ) : Fin N := pick (struck w s)

theorem struck_of (w : Fin N → EReal) (s : ℕ) (q : Fin N) (h : ∀ r, r < s → nth w r ≠ q) : struck w s q = w q := by
  induction s with
  | zero => rfl
  | succ s ih =>
    show (if q = nth w s then ⊤ else struck w s q) = w q
    rw [if_neg (fun e => h s (Nat.lt_succ_self s) e.symm)]
    exact ih fun r hr => h r (Nat.lt_succ_of_lt hr)

theorem struck_top (w : Fin N → EReal) (s : ℕ) (q : Fin N) (h : ∃ r, r < s ∧ nth w r = q) : struck w s q = ⊤ := by
  induction s with
  | zero => obtain ⟨r, hr, _⟩ := h; exact absurd hr (Nat.not_lt_zero r)
  | succ s ih =>
    show (if q = nth w s then ⊤ else struck w s q) = ⊤
    by_cases e : q = nth w s
    · rw [if_pos e]
    · rw [if_neg e]
      obtain ⟨r, hr, hq⟩ := h
      refine ih ⟨r, ?_, hq⟩
      rcases Nat.lt_succ_iff_lt_or_eq.mp hr with h' | h'
      · exact h'
      · subst h'; exact absurd hq.symm e

/-- A row of entries below `⊤` gives a different position in each of its first `N` rounds. -/
theorem nth_ne (w : Fin N → EReal) (hw : ∀ q, w q < ⊤) (s : ℕ) (hs : s < N) (r : ℕ) (hr : r < s) : nth w r ≠ nth w s := by
  intro e
  have hcard : ((Finset.range s).image (nth w)).card < (Finset.univ : Finset (Fin N)).card := by
    rw [Finset.card_univ, Fintype.card_fin]
    exact lt_of_le_of_lt Finset.card_image_le (by simpa using hs)
  obtain ⟨q, -, hq⟩ := Finset.exists_mem_notMem_of_card_lt_card hcard
  have hq' : ∀ r, r < s → nth w r ≠ q := fun r hr e' => hq (Finset.mem_image.mpr ⟨r, by simpa using hr, e'⟩)
  have h1 : struck w s (nth w s) ≤ struck w s q := pick_le _ q
  rw [struck_of w s q hq', struck_top w s _ ⟨r, hr, e⟩] at h1
  exact absurd (hw q) (not_lt.mpr h1)

/-- A position not yet taken comes after the one taken now. -/
theorem nth_before (w : Fin N → EReal) (s : ℕ) (hs : ∀ r, r < s → nth w r ≠ nth w s) (p : Fin N)
    (hp : ∀ r, r < s → nth w r ≠ p) (hne : p ≠ nth w s) :
    w (nth w s) < w p ∨ (w (nth w s) = w p ∧ nth w s < p) := by
  have e1 := struck_of w s p hp
  have e2 := struck_of w s (nth w s) hs
  have h1 : struck w s (nth w s) ≤ struck w s p := pick_le _ p
  rw [e1, e2] at h1
  rcases lt_or_eq_of_le h1 with h | h
  · exact Or.inl h
  · refine Or.inr ⟨h, ?_⟩
    rcases lt_trichotomy p (nth w s) with h' | h' | h'
    · have h2 : struck w s (nth w s) < struck w s p := pick_lt _ p h'
      rw [e1, e2, h] at h2
      exact absurd h2 (lt_irrefl _)
    · exact absurd h' hne
    · exact h'

/-- A stable sort by a key alone is the sort by the key and then the position. -/
theorem stableSort_key {n : ℕ} {κ : Type} [DecidableEq κ] (lt : κ → κ → Bool) (key : Fin n → κ) (l : List (Fin n))
    (hl : l.Pairwise (· < ·)) :
    stableSort (fun k k' => lt (key k) (key k')) l
      = stableSort (fun k k' => lt (key k) (key k') || (decide (key k = key k') && decide (k < k'))) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    have : ¬ b < a := not_lt.mpr hab.le
    simp [this]

/-- The stable sort of a row, least first, starts with the positions the rounds take. -/
theorem sortedFrom_nth (w : Fin N → EReal) (K : ℕ) (hK : K ≤ N)
    (hinj : ∀ r s : ℕ, r < s → s < K → nth w r ≠ nth w s) (i : Fin K) :
    sortedFrom (fun k k' : Fin N => decide (w k < w k')) (i.castLE hK) = nth w i := by
  classical
  have hB := StrictTotalBefore.of_key_then_position (κ := EReal) (fun a b => decide (a < b)) w
    (fun a => by simp) (fun a b c h1 h2 => by simp only [decide_eq_true_eq] at *; exact lt_trans h1 h2)
    (fun a b => by simp only [decide_eq_true_eq]; exact lt_trichotomy a b)
  have hkey := stableSort_key (κ := EReal) (fun a b => decide (a < b)) w (List.finRange N) (List.pairwise_lt_finRange N)
  have hs : sortedFrom (fun k k' : Fin N => decide (w k < w k'))
      = sortedFrom (fun k k' : Fin N => decide (w k < w k') || (decide (w k = w k') && decide (k < k'))) := by
    funext k
    unfold sortedFrom
    exact List.get_of_eq hkey _
  rw [hs]
  have hbef : ∀ (i : Fin K) (p : Fin N), (∀ r, r < i.val → nth w r ≠ p) →
      (decide (w p < w (nth w i)) || (decide (w p = w (nth w i)) && decide (p < nth w i))) = false := by
    intro i p hp
    by_cases hne : p = nth w i
    · subst hne; simp
    · rcases nth_before w i (fun r hr => hinj r i hr i.isLt) p hp hne with h | ⟨h, h'⟩
      · simp [h.le, h.ne']
      · simp [h, h'.le]
  refine hB.sortedFrom_eq_of_prefix hK (fun s : Fin K => nth w s) ?_ ?_ ?_ i
  · intro a b hab
    rcases lt_trichotomy a b with h | h | h
    · exact absurd hab (hinj a b h b.isLt)
    · exact h
    · exact absurd hab.symm (hinj b a h a.isLt)
  · intro i j hij
    exact hbef i _ fun r hr => hinj r j (lt_trans hr hij) j.isLt
  · intro i p hp
    exact hbef i p fun r hr => hp ⟨r, lt_trans hr i.isLt⟩

/-- The indices a host top-k of the last axis gives: those the rounds take of the negated row. -/
theorem topK_index {A B N K : ℕ} [NeZero N] (x : (⟨3, ![A, B, N]⟩ : Shape).Idx → Ideal .f32)
    (h : (⟨3, ![A, B, N]⟩ : Shape).Slices (fun _ => 0) ⟨3, ![A, B, K]⟩) (a : Fin A) (b : Fin B) (k : Fin K)
    (w : Fin N → EReal) (hw : ∀ n, x (ix3 a b n) = - w n) (hK : K ≤ N)
    (hinj : ∀ r s : ℕ, r < s → s < K → nth w r ≠ nth w s) :
    (Host.topK ⟨3, ![A, B, K]⟩ 2 (FloatOps.cmpfTotal .gt) x h).2 (ix3 a b k) = BitVec.ofNat 32 (nth w k).val := by
  have e := sortedFrom_nth w K hK hinj k
  have hidx : ∀ n : Fin N, Shape.Idx.along (s := ⟨3, ![A, B, N]⟩) (ix3 a b (k.castLE hK)) 2 n = ix3 a b n := by
    intro n
    funext i
    fin_cases i <;> rfl
  have key : ∀ J : (⟨3, ![A, B, N]⟩ : Shape).Idx, J = ix3 a b (k.castLE hK) →
      (Host.sort2 ⟨3, ![A, B, N]⟩ 2 (fun l r : Ideal .f32 × BitVec 32 => FloatOps.cmpfTotal .gt l.1 r.1) x
        (fun i => if hd : 2 < 3 then iotaInDim ⟨3, ![A, B, N]⟩ 32 ⟨2, hd⟩ i else 0#32)).2 J = BitVec.ofNat 32 (nth w k).val := by
    rintro J rfl
    unfold Host.sort2
    rw [dif_pos (show 2 < (⟨3, ![A, B, N]⟩ : Shape).rank from (by decide : 2 < 3))]
    have hB : (fun n n' : Fin N => (FloatOps.cmpfTotal (F := Ideal) .gt
        (x (Shape.Idx.along (s := ⟨3, ![A, B, N]⟩) (ix3 a b (k.castLE hK)) 2 n))
        (x (Shape.Idx.along (s := ⟨3, ![A, B, N]⟩) (ix3 a b (k.castLE hK)) 2 n')) == 1#1)) = fun n n' => decide (w n < w n') := by
      funext n n'
      rw [hidx, hidx, hw, hw]
      show (Ideal.cmp .ogt (- w n) (- w n') == 1#1) = _
      have : (- w n' < - w n) ↔ w n < w n' := EReal.neg_lt_neg_iff
      by_cases hh : w n < w n'
      · simp [Ideal.cmp, this, hh]
      · simp [Ideal.cmp, this, hh]
    exact congrArg (fun p : Fin N => BitVec.ofNat 32 p.val) ((congrFun (congrArg sortedFrom hB) (k.castLE hK)).trans e)
  refine key _ ?_
  funext i
  refine Fin.ext ?_
  fin_cases i
  · exact Nat.zero_add _
  · exact Nat.zero_add _
  · exact Nat.zero_add _

end Matcher
end
-- ==== Proof.Reads.lean ====
/- Reading lemmas at the ideal values: reductions over one axis of a rank-2 block as folds over that axis, and the two
   broadcasts a row or a column of a block takes. -/
module

public import proofs.«01_k».proof.Proof.Pick
public import Idealize.ShloMosaic.Lib.Pipeline.Value
public import Idealize.ShloMosaic.Lib.ValueLayout
public import Idealize.ShloMosaic.Lib.ValueLayoutCasts
public import Idealize.ShloMosaic.Lib.StableHlo.Predicate

@[expose] public section
noncomputable section

namespace Matcher

open Idealize.ShloMosaic Idealize.ShloMosaic.ValueIdx

section Axis
variable {α : Type} {M N : ℕ}

theorem lift_axis0 (h : (⟨2, ![M, N]⟩ : Shape).Reduces [0] ⟨1, ![N]⟩) (g : Fin N) (k : Fin M) :
    h.lift (ix1 g) k = ix2 k g := by
  funext a; match a with | ⟨0, _⟩ => rfl | ⟨1, _⟩ => rfl

theorem lift_axis1 (h : (⟨2, ![M, N]⟩ : Shape).Reduces [1] ⟨1, ![M]⟩) (q : Fin M) (k : Fin N) :
    h.lift (ix1 q) k = ix2 q k := by
  funext a; match a with | ⟨0, _⟩ => rfl | ⟨1, _⟩ => rfl

/-- A column broadcast over a block reads the column. -/
theorem broadcastTo_col (v : (⟨2, ![M, 1]⟩ : Shape).Idx → α) (h : (⟨2, ![M, 1]⟩ : Shape).Broadcasts ⟨2, ![M, N]⟩)
    (q : Fin M) (g : Fin N) : broadcastTo ⟨2, ![M, N]⟩ v h (ix2 q g) = v (ix2 q (0 : Fin 1)) := by
  refine broadcastTo_apply v h (ix2 q g) (ix2 q (0 : Fin 1)) fun ax => ?_
  match ax with
  | ⟨0, _⟩ =>
    show q.val = if M = 1 then 0 else q.val
    have := q.isLt
    split_ifs <;> omega
  | ⟨1, _⟩ => rfl

end Axis

/-- The pattern of plus infinity. -/
theorem ofBits_top : Ideal.ofBits .f32 0x7F800000#32 = (⊤ : EReal) := by
  simp [Ideal.ofBits, Ideal.ieee, -EReal.coe_mul]

/-- A finite sum of reals, among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A row's sum as the reduction over the second axis gives it. -/
theorem rowSum_apply {M N : ℕ} (v : FVec Ideal ⟨2, ![M, N]⟩ .f32) (acc : BitVec 32)
    (h : (⟨2, ![M, N]⟩ : Shape).Reduces [1] ⟨1, ![M]⟩) (hφ : FKind.Formats .f32) (hacc : acc = FKind.add.neutral .f32 hφ)
    (q : Fin M) : multiReduction .add [1] ⟨1, ![M]⟩ v acc h hφ hacc (ix1 q) = ∑ k : Fin N, v (ix2 q k) :=
  (Ideal.multiReduction_add_single v acc h hφ hacc (ix1 q)).trans
    (Finset.sum_congr rfl fun k _ => congrArg v (lift_axis1 h q k))

/-- How many positions satisfy a condition, as a sum of ones. -/
theorem sum_ite_card {N : ℕ} (v : Fin N → EReal) (T : Fin N → Prop) [DecidablePred T] (h : ∀ k, v k = if T k then 1 else 0) :
    ∑ k, v k = (((Finset.univ.filter T).card : ℝ) : EReal) := by
  have e : ∀ k, v k = (((if T k then (1 : ℝ) else 0) : ℝ) : EReal) := fun k => by rw [h]; split_ifs <;> simp
  rw [Finset.sum_congr rfl fun k _ => e k, ← coe_sum, Finset.sum_ite]
  simp

section Fold
variable {N : ℕ} [NeZero N]

/-- The least value of a row, folded from plus infinity. -/
theorem fold_min_eq (w : Fin N → EReal) : Finset.univ.fold min ⊤ w = w (pick w) := by
  apply le_antisymm
  · rw [Finset.fold_min_le]; exact Or.inr ⟨_, Finset.mem_univ _, le_rfl⟩
  · rw [Finset.le_fold_min]; exact ⟨le_top, fun x _ => pick_le w x⟩

theorem toInt_minsi (x y : BitVec 32) : (IntOp.minsi x y).toInt = min x.toInt y.toInt := by
  unfold IntOp.minsi
  simp only [BitVec.slt_iff_toInt_lt, BitVec.sle_iff_toInt_le]
  split_ifs with h <;> omega

/-- The least of the positions holding the least value is the first of them. -/
theorem fold_minsi_eq (w : Fin N → EReal) (hN : N < 2 ^ 31) (f : Fin N → BitVec 32)
    (hf : ∀ q, f q = if w q = w (pick w) then BitVec.ofNat 32 q.val else BitVec.ofNat 32 N) :
    Finset.univ.fold IntOp.minsi 2147483647#32 f = BitVec.ofNat 32 (pick w).val := by
  have hv : ∀ n : ℕ, n < 2 ^ 31 → (BitVec.ofNat 32 n).toInt = (n : ℤ) := by
    intro n hn
    rw [BitVec.toInt_ofNat']
    simp only [Int.bmod]; omega
  apply BitVec.eq_of_toInt_eq
  rw [← Finset.fold_hom (op' := min) (m := BitVec.toInt) (fun x y => toInt_minsi x y), hv (pick w).val (by have := (pick w).isLt; omega)]
  apply le_antisymm
  · rw [Finset.fold_min_le]
    refine Or.inr ⟨pick w, Finset.mem_univ _, ?_⟩
    rw [hf, if_pos rfl, hv (pick w).val (by have := (pick w).isLt; omega)]
  · rw [Finset.le_fold_min]
    refine ⟨by have : (2147483647#32 : BitVec 32).toInt = 2147483647 := by decide
               rw [this]; have := (pick w).isLt; omega, fun x _ => ?_⟩
    rw [hf]
    split_ifs with h
    · rw [hv x.val (by omega)]
      by_contra hlt
      have hx : x < pick w := by
        rw [Fin.lt_def]; omega
      exact absurd h (ne_of_gt (pick_lt w x hx))
    · rw [hv N hN]; have := (pick w).isLt; omega

end Fold

end Matcher
end
-- ==== Proof.Spec.lean ====
/- The matching costs of one query and one target as formulas over extended reals, in the order both programs take their
   operations. -/
module

public import proofs.«01_k».proof.Proof.Reads

@[expose] public section
noncomputable section

namespace Matcher

open Idealize.ShloMosaic Idealize.ShloMosaic.ValueIdx

/-- The number a 32-bit float pattern denotes. -/
abbrev lit (w : BitVec 32) : EReal := Ideal.ofBits .f32 w

/-- The magnitude. -/
abbrev absE (x : EReal) : EReal := max x (-x)

/-- The corners of a centre/size box: left, top, right, bottom. -/
def xyxy (b : Fin 4 → EReal) : Fin 4 → EReal :=
  ![b 0 - lit 0x3F000000#32 * b 2, b 1 - lit 0x3F000000#32 * b 3,
    b 0 + lit 0x3F000000#32 * b 2, b 1 + lit 0x3F000000#32 * b 3]

/-- The area of a corner box. -/
def areaOf (p : Fin 4 → EReal) : EReal := (p 2 - p 0) * (p 3 - p 1)

/-- One side of the intersection of two corner boxes. -/
def interSide (p t : Fin 4 → EReal) (lo hi : Fin 4) : EReal :=
  max (lit 0x00000000#32) (min (p hi) (t hi) - max (p lo) (t lo))

/-- One side of the box enclosing two corner boxes. -/
def enclSide (p t : Fin 4 → EReal) (lo hi : Fin 4) : EReal := max (p hi) (t hi) - min (p lo) (t lo)

def interOf (p t : Fin 4 → EReal) : EReal := interSide p t 0 2 * interSide p t 1 3
def unionOf (p t : Fin 4 → EReal) : EReal := (areaOf p + areaOf t) - interOf p t

/-- The generalized overlap, given the area of the enclosing box. -/
def giouWith (e : EReal) (p t : Fin 4 → EReal) : EReal :=
  Ideal.div (interOf p t) (unionOf p t) - Ideal.div (e - unionOf p t) e

/-- The sum of the four coordinate distances. -/
def l1Of (b t : Fin 4 → EReal) : EReal :=
  ((absE (b 0 - t 0) + absE (b 1 - t 1)) + absE (b 2 - t 2)) + absE (b 3 - t 3)

/-- The focal class cost of one probability. -/
def classOf (p : EReal) : EReal :=
  (lit 0x3E800000#32 * ((lit 0x3F800000#32 - p) * (lit 0x3F800000#32 - p)))
      * (lit 0x00000000#32 - Ideal.log (p + lit 0x322BCC77#32))
    - (lit 0x3F400000#32 * (p * p)) * (lit 0x00000000#32 - Ideal.log ((lit 0x3F800000#32 - p) + lit 0x322BCC77#32))

/-- The pixel position of a box-centre coordinate. -/
def pixOf (c : EReal) : EReal :=
  Ideal.div ((((c * lit 0x40000000#32 - lit 0x3F800000#32) + lit 0x3F800000#32) * lit 0x43800000#32) - lit 0x3F800000#32)
    (lit 0x40000000#32)

/-- The interpolation weight of pixel `i` at position `x`. -/
def hatOf (x : EReal) (i : ℕ) : EReal :=
  max (lit 0x3F800000#32 - absE ((((BitVec.ofNat 32 i).toInt : ℝ) : EReal) - x)) (lit 0x00000000#32)

/-- The greatest entry of a map. -/
def topOf (d : Fin 256 → Fin 256 → EReal) : EReal :=
  (Finset.univ : Finset (Fin 256 × Fin 256)).fold max ⊥ fun ij => d ij.1 ij.2

theorem topOf_le_iff (d : Fin 256 → Fin 256 → EReal) (c : EReal) : topOf d ≤ c ↔ ∀ i j, d i j ≤ c := by
  unfold topOf
  rw [Finset.fold_max_le]
  exact ⟨fun h i j => h.2 (i, j) (Finset.mem_univ _), fun h => ⟨bot_le, fun x _ => h x.1 x.2⟩⟩

theorem topOf_lt_iff (d : Fin 256 → Fin 256 → EReal) (c : EReal) (hc : ⊥ < c) : topOf d < c ↔ ∀ i j, d i j < c := by
  unfold topOf
  rw [Finset.fold_max_lt]
  exact ⟨fun h i j => h.2 (i, j) (Finset.mem_univ _), fun h => ⟨hc, fun x _ => h x.1 x.2⟩⟩

/-- The map divided by its greatest entry. -/
def normOf (d : Fin 256 → Fin 256 → EReal) (i j : Fin 256) : EReal := Ideal.div (d i j) (topOf d + lit 0x358637BD#32)

/-- The weighted sum of the four parts of a cost. -/
def mixOf (box cls giou dens : EReal) : EReal :=
  ((lit 0x40A00000#32 * box + lit 0x40000000#32 * cls) + lit 0x40000000#32 * giou) + lit 0x3F800000#32 * dens

end Matcher
end
-- ==== Proof.RefTools.lean ====
/- Small reading tools for the reference: indices by their coordinates, and a joined array read at one of its pieces. -/
module

public import proofs.«01_k».proof.Proof.Gen.ReferenceIdeal.Read
public import proofs.«01_k».proof.Proof.Spec

@[expose] public section
noncomputable section

namespace Matcher

open Idealize.ShloMosaic Idealize.ShloMosaic.ValueIdx

theorem at1 {A : ℕ} (i : (⟨1, ![A]⟩ : Shape).Idx) (a : Fin A) (h0 : (i 0).val = a.val) : i = ix1 a := by
  funext x; match x with | ⟨0, _⟩ => exact Fin.ext h0
theorem at2 {A B : ℕ} (i : (⟨2, ![A, B]⟩ : Shape).Idx) (a : Fin A) (b : Fin B) (h0 : (i 0).val = a.val)
    (h1 : (i 1).val = b.val) : i = ix2 a b := by
  funext x; match x with | ⟨0, _⟩ => exact Fin.ext h0 | ⟨1, _⟩ => exact Fin.ext h1
theorem at3 {A B C : ℕ} (i : (⟨3, ![A, B, C]⟩ : Shape).Idx) (a : Fin A) (b : Fin B) (c : Fin C) (h0 : (i 0).val = a.val)
    (h1 : (i 1).val = b.val) (h2 : (i 2).val = c.val) : i = ix3 a b c := by
  funext x; match x with | ⟨0, _⟩ => exact Fin.ext h0 | ⟨1, _⟩ => exact Fin.ext h1 | ⟨2, _⟩ => exact Fin.ext h2
theorem at4 {A B C D : ℕ} (i : (⟨4, ![A, B, C, D]⟩ : Shape).Idx) (a : Fin A) (b : Fin B) (c : Fin C) (d : Fin D)
    (h0 : (i 0).val = a.val) (h1 : (i 1).val = b.val) (h2 : (i 2).val = c.val) (h3 : (i 3).val = d.val) : i = ix4 a b c d := by
  funext x
  match x with | ⟨0, _⟩ => exact Fin.ext h0 | ⟨1, _⟩ => exact Fin.ext h1 | ⟨2, _⟩ => exact Fin.ext h2 | ⟨3, _⟩ => exact Fin.ext h3

/-- Four columns side by side. -/
theorem columns4_apply {α : Type} {R : ℕ} (y0 y1 y2 y3 : (⟨2, ![R, 1]⟩ : Shape).Idx → α)
    (h : Shape.Concatenates [(⟨2, ![R, 1]⟩ : Shape), ⟨2, ![R, 1]⟩, ⟨2, ![R, 1]⟩, ⟨2, ![R, 1]⟩] ⟨2, ![R, 4]⟩ 1) (r : Fin R) (c : Fin 4) :
    concatenate ⟨2, ![R, 4]⟩ 1 [⟨⟨2, ![R, 1]⟩, y0⟩, ⟨⟨2, ![R, 1]⟩, y1⟩, ⟨⟨2, ![R, 1]⟩, y2⟩, ⟨⟨2, ![R, 1]⟩, y3⟩] h (ix2 r c)
      = (![y0 (ix2 r 0), y1 (ix2 r 0), y2 (ix2 r 0), y3 (ix2 r 0)] : Fin 4 → α) c := by
  have off : ∀ (c : Fin 4) (b : Fin 2), b.cast (rfl : (2:ℕ) = 2) ≠ (1 : Fin 2) →
      ((ix2 r (0 : Fin 1) : (⟨2, ![R, 1]⟩ : Shape).Idx) b).val = ((ix2 r c : (⟨2, ![R, 4]⟩ : Shape).Idx) (b.cast rfl)).val := by
    intro c b hb
    match b with
    | ⟨0, _⟩ => rfl
    | ⟨1, _⟩ => exact absurd rfl hb
  let xs : List ((s : Shape) × (s.Idx → α)) := [⟨⟨2, ![R, 1]⟩, y0⟩, ⟨⟨2, ![R, 1]⟩, y1⟩, ⟨⟨2, ![R, 1]⟩, y2⟩, ⟨⟨2, ![R, 1]⟩, y3⟩]
  match c with
  | ⟨0, _⟩ => exact concatenate_apply_piece (t := ⟨2, ![R, 4]⟩) 1 xs h _ 0 (by show 0 < 4; omega) _ y0 rfl rfl 0 rfl (ix2 r 0) (off _) rfl
  | ⟨1, _⟩ => exact concatenate_apply_piece (t := ⟨2, ![R, 4]⟩) 1 xs h _ 1 (by show 1 < 4; omega) _ y1 rfl rfl 1 rfl (ix2 r 0) (off _) rfl
  | ⟨2, _⟩ => exact concatenate_apply_piece (t := ⟨2, ![R, 4]⟩) 1 xs h _ 2 (by show 2 < 4; omega) _ y2 rfl rfl 2 rfl (ix2 r 0) (off _) rfl
  | ⟨3, _⟩ => exact concatenate_apply_piece (t := ⟨2, ![R, 4]⟩) 1 xs h _ 3 (by show 3 < 4; omega) _ y3 rfl rfl 3 rfl (ix2 r 0) (off _) rfl

/-- Three layers side by side. -/
theorem layers3_apply {α : Type} {A B : ℕ} (y0 y1 y2 : (⟨3, ![A, B, 1]⟩ : Shape).Idx → α)
    (h : Shape.Concatenates [(⟨3, ![A, B, 1]⟩ : Shape), ⟨3, ![A, B, 1]⟩, ⟨3, ![A, B, 1]⟩] ⟨3, ![A, B, 3]⟩ 2) (a : Fin A) (b : Fin B) (c : Fin 3) :
    concatenate ⟨3, ![A, B, 3]⟩ 2 [⟨⟨3, ![A, B, 1]⟩, y0⟩, ⟨⟨3, ![A, B, 1]⟩, y1⟩, ⟨⟨3, ![A, B, 1]⟩, y2⟩] h (ix3 a b c)
      = (![y0 (ix3 a b 0), y1 (ix3 a b 0), y2 (ix3 a b 0)] : Fin 3 → α) c := by
  have off : ∀ (c : Fin 3) (x : Fin 3), x.cast (rfl : (3:ℕ) = 3) ≠ (2 : Fin 3) →
      ((ix3 a b (0 : Fin 1) : (⟨3, ![A, B, 1]⟩ : Shape).Idx) x).val = ((ix3 a b c : (⟨3, ![A, B, 3]⟩ : Shape).Idx) (x.cast rfl)).val := by
    intro c x hx
    match x with
    | ⟨0, _⟩ => rfl
    | ⟨1, _⟩ => rfl
    | ⟨2, _⟩ => exact absurd rfl hx
  let xs : List ((s : Shape) × (s.Idx → α)) := [⟨⟨3, ![A, B, 1]⟩, y0⟩, ⟨⟨3, ![A, B, 1]⟩, y1⟩, ⟨⟨3, ![A, B, 1]⟩, y2⟩]
  match c with
  | ⟨0, _⟩ => exact concatenate_apply_piece (t := ⟨3, ![A, B, 3]⟩) 2 xs h _ 0 (by show 0 < 3; omega) _ y0 rfl rfl 0 rfl (ix3 a b 0) (off _) rfl
  | ⟨1, _⟩ => exact concatenate_apply_piece (t := ⟨3, ![A, B, 3]⟩) 2 xs h _ 1 (by show 1 < 3; omega) _ y1 rfl rfl 1 rfl (ix3 a b 0) (off _) rfl
  | ⟨2, _⟩ => exact concatenate_apply_piece (t := ⟨3, ![A, B, 3]⟩) 2 xs h _ 2 (by show 2 < 3; omega) _ y2 rfl rfl 2 rfl (ix3 a b 0) (off _) rfl

end Matcher
end
-- ==== Proof.RefBox.lean ====
/- The reference's box costs at one query and one target of image 0: the coordinate distance and the generalized
   overlap. -/
module

public import proofs.«01_k».proof.Proof.RefTools

@[expose] public section
set_option maxRecDepth 16384
noncomputable section

namespace Cert.ReferenceIdeal.Val

open Cert.ReferenceIdeal Cert.ReferenceIdeal.Gen Cert.ReferenceIdeal.Read
open Idealize.ShloMosaic Idealize.ShloMosaic.ValueIdx Matcher

abbrev Boxes := (⟨S8x900x4, .f32⟩ : BufTy).Contents (Elt Ideal)
abbrev Targets := (⟨S8x128x4, .f32⟩ : BufTy).Contents (Elt Ideal)

/-- The row of a query of an image among all queries. -/
def row (b : Fin 8) (q : Fin 900) : Fin 7200 := ⟨b.val * 900 + q.val, by have := b.isLt; have := q.isLt; omega⟩
/-- The column of a target of image 0 among all targets. -/
def col (g : Fin 128) : Fin 1024 := ⟨g.val, by have := g.isLt; omega⟩

/-- A predicted box. -/
abbrev pbox (x1 : Boxes) (b : Fin 8) (q : Fin 900) : Fin 4 → EReal := fun c => x1 (ix3 b q c)
/-- A target box of image 0. -/
abbrev tbox (x3 : Targets) (g : Fin 128) : Fin 4 → EReal := fun c => x3 (ix3 0 g c)

section
variable (x1 : Boxes) (x3 : Targets)

/-- All predicted boxes as rows. -/
abbrev prow (r : Fin 7200) : Fin 4 → EReal := fun c => val_main_v7 (F := Ideal) x1 (ix2 r c)
abbrev trow (g : Fin 1024) : Fin 4 → EReal := fun c => val_main_v9 (F := Ideal) x3 (ix2 g c)

theorem prow_row (b : Fin 8) (q : Fin 900) : prow x1 (row b q) = pbox x1 b q := by
  funext c
  refine (val_main_v7_apply x1 _).trans (congrArg x1 (at3 _ _ _ _ ?_ ?_ ?_))
  all_goals
    have := b.isLt; have := q.isLt; have := c.isLt
    simp only [row, ix2, ix3]
    show _ = _
  · show ((b.val * 900 + q.val) * 4 + c.val) / 3600 = b.val; omega
  · show ((b.val * 900 + q.val) * 4 + c.val) / 4 % 900 = q.val; omega
  · show ((b.val * 900 + q.val) * 4 + c.val) % 4 = c.val; omega

theorem trow_col (g : Fin 128) : trow x3 (col g) = tbox x3 g := by
  funext c
  refine (val_main_v9_apply x3 _).trans (congrArg x3 (at3 _ _ _ _ ?_ ?_ ?_))
  all_goals
    have := g.isLt; have := c.isLt
  · show (g.val * 4 + c.val) / 512 = 0; omega
  · show (g.val * 4 + c.val) / 4 % 128 = g.val; omega
  · show (g.val * 4 + c.val) % 4 = c.val; omega

theorem v53_read (r : Fin 7200) (g : Fin 1024) : val_main_v53 (F := Ideal) x1 x3 (ix2 r g) = l1Of (prow x1 r) (trow x3 g) := by
  rw [val_main_v53_apply]
  have e : ∀ k : Fin 4, val_main_v52 (F := Ideal) x1 x3 (idx_main_v53 (ix2 r g) k) = absE (prow x1 r k - trow x3 g k) := by
    intro k
    show absE (val_main_v49 (F := Ideal) x1 _ - val_main_v50 (F := Ideal) x3 _) = _
    rw [val_main_v49_apply, val_main_v47_apply, val_main_v50_apply, val_main_v48_apply]
    refine congrArg absE (congrArg₂ (· - ·) ?_ ?_)
    · exact congrArg (val_main_v7 x1) (at2 _ _ _ rfl rfl)
    · exact congrArg (val_main_v9 x3) (at2 _ _ _ rfl rfl)
  rw [Finset.sum_congr rfl fun k _ => e k, Fin.sum_univ_four]
  show Ideal.ofBits .f32 0x00000000#32 + _ = _
  rw [Ideal.ofBits_zero_f32, zero_add]
  rfl

theorem v55_read (r : Fin 7200) : val_main_v55 (F := Ideal) x1 (ix1 r) = prow x1 r 0 := by
  rw [val_main_v55_apply, val_main_v54_apply]; exact congrArg (val_main_v7 x1) (at2 _ _ _ (Nat.div_one _) rfl)
theorem v57_read (r : Fin 7200) : val_main_v57 (F := Ideal) x1 (ix1 r) = prow x1 r 1 := by
  rw [val_main_v57_apply, val_main_v56_apply]; exact congrArg (val_main_v7 x1) (at2 _ _ _ (Nat.div_one _) rfl)
theorem v59_read (r : Fin 7200) : val_main_v59 (F := Ideal) x1 (ix1 r) = prow x1 r 2 := by
  rw [val_main_v59_apply, val_main_v58_apply]; exact congrArg (val_main_v7 x1) (at2 _ _ _ (Nat.div_one _) rfl)
theorem v61_read (r : Fin 7200) : val_main_v61 (F := Ideal) x1 (ix1 r) = prow x1 r 3 := by
  rw [val_main_v61_apply, val_main_v60_apply]; exact congrArg (val_main_v7 x1) (at2 _ _ _ (Nat.div_one _) rfl)
theorem v80_read (g : Fin 1024) : val_main_v80 (F := Ideal) x3 (ix1 g) = trow x3 g 0 := by
  rw [val_main_v80_apply, val_main_v79_apply]; exact congrArg (val_main_v9 x3) (at2 _ _ _ (Nat.div_one _) rfl)
theorem v82_read (g : Fin 1024) : val_main_v82 (F := Ideal) x3 (ix1 g) = trow x3 g 1 := by
  rw [val_main_v82_apply, val_main_v81_apply]; exact congrArg (val_main_v9 x3) (at2 _ _ _ (Nat.div_one _) rfl)
theorem v84_read (g : Fin 1024) : val_main_v84 (F := Ideal) x3 (ix1 g) = trow x3 g 2 := by
  rw [val_main_v84_apply, val_main_v83_apply]; exact congrArg (val_main_v9 x3) (at2 _ _ _ (Nat.div_one _) rfl)
theorem v86_read (g : Fin 1024) : val_main_v86 (F := Ideal) x3 (ix1 g) = trow x3 g 3 := by
  rw [val_main_v86_apply, val_main_v85_apply]; exact congrArg (val_main_v9 x3) (at2 _ _ _ (Nat.div_one _) rfl)

/-- The predicted corners. -/
theorem v78_read (r : Fin 7200) (c : Fin 4) : val_main_v78 (F := Ideal) x1 (ix2 r c) = xyxy (prow x1 r) c := by
  unfold val_main_v78
  refine (columns4_apply _ _ _ _ _ r c).trans ?_
  unfold xyxy
  refine congrFun ?_ c
  rw [val_main_v74_apply, val_main_v75_apply, val_main_v76_apply, val_main_v77_apply,
    at1 (idx_main_v74 (ix2 r 0)) r rfl, at1 (idx_main_v75 (ix2 r 0)) r rfl, at1 (idx_main_v76 (ix2 r 0)) r rfl,
    at1 (idx_main_v77 (ix2 r 0)) r rfl]
  rw [val_main_v64_apply, val_main_v67_apply, val_main_v70_apply, val_main_v73_apply, val_main_v63_apply, val_main_v66_apply,
    val_main_v69_apply, val_main_v72_apply, v55_read, v57_read, v59_read, v61_read]
  rfl

/-- The target corners. -/
theorem v103_read (g : Fin 1024) (c : Fin 4) : val_main_v103 (F := Ideal) x3 (ix2 g c) = xyxy (trow x3 g) c := by
  unfold val_main_v103
  refine (columns4_apply _ _ _ _ _ g c).trans ?_
  unfold xyxy
  refine congrFun ?_ c
  rw [val_main_v99_apply, val_main_v100_apply, val_main_v101_apply, val_main_v102_apply,
    at1 (idx_main_v99 (ix2 g 0)) g rfl, at1 (idx_main_v100 (ix2 g 0)) g rfl, at1 (idx_main_v101 (ix2 g 0)) g rfl,
    at1 (idx_main_v102 (ix2 g 0)) g rfl]
  rw [val_main_v89_apply, val_main_v92_apply, val_main_v95_apply, val_main_v98_apply, val_main_v88_apply, val_main_v91_apply,
    val_main_v94_apply, val_main_v97_apply, v80_read, v82_read, v84_read, v86_read]
  rfl

theorem v105_read (r : Fin 7200) : val_main_v105 (F := Ideal) x1 (ix1 r) = xyxy (prow x1 r) 2 := by
  rw [val_main_v105_apply, val_main_v104_apply, ← v78_read]; exact congrArg (val_main_v78 x1) (at2 _ _ _ (Nat.div_one _) rfl)
theorem v107_read (r : Fin 7200) : val_main_v107 (F := Ideal) x1 (ix1 r) = xyxy (prow x1 r) 0 := by
  rw [val_main_v107_apply, val_main_v106_apply, ← v78_read]; exact congrArg (val_main_v78 x1) (at2 _ _ _ (Nat.div_one _) rfl)
theorem v110_read (r : Fin 7200) : val_main_v110 (F := Ideal) x1 (ix1 r) = xyxy (prow x1 r) 3 := by
  rw [val_main_v110_apply, val_main_v109_apply, ← v78_read]; exact congrArg (val_main_v78 x1) (at2 _ _ _ (Nat.div_one _) rfl)
theorem v112_read (r : Fin 7200) : val_main_v112 (F := Ideal) x1 (ix1 r) = xyxy (prow x1 r) 1 := by
  rw [val_main_v112_apply, val_main_v111_apply, ← v78_read]; exact congrArg (val_main_v78 x1) (at2 _ _ _ (Nat.div_one _) rfl)
theorem v114_read (r : Fin 7200) : val_main_v114 (F := Ideal) x1 (ix1 r) = areaOf (xyxy (prow x1 r)) := by
  rw [val_main_v114_apply, val_main_v108_apply, val_main_v113_apply, v105_read, v107_read, v110_read, v112_read]; rfl
theorem v116_read (g : Fin 1024) : val_main_v116 (F := Ideal) x3 (ix1 g) = xyxy (trow x3 g) 2 := by
  rw [val_main_v116_apply, val_main_v115_apply, ← v103_read]; exact congrArg (val_main_v103 x3) (at2 _ _ _ (Nat.div_one _) rfl)
theorem v118_read (g : Fin 1024) : val_main_v118 (F := Ideal) x3 (ix1 g) = xyxy (trow x3 g) 0 := by
  rw [val_main_v118_apply, val_main_v117_apply, ← v103_read]; exact congrArg (val_main_v103 x3) (at2 _ _ _ (Nat.div_one _) rfl)
theorem v121_read (g : Fin 1024) : val_main_v121 (F := Ideal) x3 (ix1 g) = xyxy (trow x3 g) 3 := by
  rw [val_main_v121_apply, val_main_v120_apply, ← v103_read]; exact congrArg (val_main_v103 x3) (at2 _ _ _ (Nat.div_one _) rfl)
theorem v123_read (g : Fin 1024) : val_main_v123 (F := Ideal) x3 (ix1 g) = xyxy (trow x3 g) 1 := by
  rw [val_main_v123_apply, val_main_v122_apply, ← v103_read]; exact congrArg (val_main_v103 x3) (at2 _ _ _ (Nat.div_one _) rfl)
theorem v125_read (g : Fin 1024) : val_main_v125 (F := Ideal) x3 (ix1 g) = areaOf (xyxy (trow x3 g)) := by
  rw [val_main_v125_apply, val_main_v119_apply, val_main_v124_apply, v116_read, v118_read, v121_read, v123_read]; rfl

/-- Coordinate `c` or `c + 2` of the corners: the low and the high end of side `c`. -/
abbrev lo (c : Fin 2) : Fin 4 := ⟨c.val, by omega⟩
abbrev hi (c : Fin 2) : Fin 4 := ⟨2 + c.val, by omega⟩

variable (r : Fin 7200) (g : Fin 1024) (c : Fin 2)

theorem v130_read : val_main_v130 (F := Ideal) x1 (ix3 r g c) = xyxy (prow x1 r) (lo c) := by
  rw [val_main_v130_apply, val_main_v127_apply, val_main_v126_apply, ← v78_read]; exact congrArg (val_main_v78 x1) (at2 _ _ _ rfl rfl)
theorem v131_read : val_main_v131 (F := Ideal) x3 (ix3 r g c) = xyxy (trow x3 g) (lo c) := by
  rw [val_main_v131_apply, val_main_v129_apply, val_main_v128_apply, ← v103_read]; exact congrArg (val_main_v103 x3) (at2 _ _ _ rfl rfl)
theorem v137_read : val_main_v137 (F := Ideal) x1 (ix3 r g c) = xyxy (prow x1 r) (hi c) := by
  rw [val_main_v137_apply, val_main_v134_apply, val_main_v133_apply, ← v78_read]; exact congrArg (val_main_v78 x1) (at2 _ _ _ rfl rfl)
theorem v138_read : val_main_v138 (F := Ideal) x3 (ix3 r g c) = xyxy (trow x3 g) (hi c) := by
  rw [val_main_v138_apply, val_main_v136_apply, val_main_v135_apply, ← v103_read]; exact congrArg (val_main_v103 x3) (at2 _ _ _ rfl rfl)
theorem v158_read : val_main_v158 (F := Ideal) x1 (ix3 r g c) = xyxy (prow x1 r) (lo c) := by
  rw [val_main_v158_apply, val_main_v155_apply, val_main_v154_apply, ← v78_read]; exact congrArg (val_main_v78 x1) (at2 _ _ _ rfl rfl)
theorem v159_read : val_main_v159 (F := Ideal) x3 (ix3 r g c) = xyxy (trow x3 g) (lo c) := by
  rw [val_main_v159_apply, val_main_v157_apply, val_main_v156_apply, ← v103_read]; exact congrArg (val_main_v103 x3) (at2 _ _ _ rfl rfl)
theorem v165_read : val_main_v165 (F := Ideal) x1 (ix3 r g c) = xyxy (prow x1 r) (hi c) := by
  rw [val_main_v165_apply, val_main_v162_apply, val_main_v161_apply, ← v78_read]; exact congrArg (val_main_v78 x1) (at2 _ _ _ rfl rfl)
theorem v166_read : val_main_v166 (F := Ideal) x3 (ix3 r g c) = xyxy (trow x3 g) (hi c) := by
  rw [val_main_v166_apply, val_main_v164_apply, val_main_v163_apply, ← v103_read]; exact congrArg (val_main_v103 x3) (at2 _ _ _ rfl rfl)

theorem v141_read : val_main_v141 (F := Ideal) x1 x3 (ix3 r g c) = interSide (xyxy (prow x1 r)) (xyxy (trow x3 g)) (lo c) (hi c) := by
  rw [val_main_v141_apply, val_main_v140_apply, val_main_v139_apply, val_main_v132_apply, v130_read, v131_read, v137_read, v138_read]; rfl
theorem v169_read : val_main_v169 (F := Ideal) x1 x3 (ix3 r g c)
    = max (lit 0x00000000#32) (enclSide (xyxy (prow x1 r)) (xyxy (trow x3 g)) (lo c) (hi c)) := by
  rw [val_main_v169_apply, val_main_v168_apply, val_main_v167_apply, val_main_v160_apply, v158_read, v159_read, v165_read, v166_read]; rfl

theorem v146_read : val_main_v146 (F := Ideal) x1 x3 (ix2 r g) = interOf (xyxy (prow x1 r)) (xyxy (trow x3 g)) := by
  have h1 : ((ix2 r g : S7200x1024.Idx) 1).val < 1024 := g.isLt
  rw [val_main_v146_apply, val_main_v143_apply, val_main_v145_apply, val_main_v142_apply, val_main_v144_apply,
    at3 (idx_main_v142 (idx_main_v143 (ix2 r g))) r g 0 (by show (r.val * 1024 + g.val) / 1024 = r.val; have := g.isLt; omega)
      (by show (r.val * 1024 + g.val) / 1 % 1024 = g.val; have := g.isLt; omega) rfl,
    at3 (idx_main_v144 (idx_main_v145 (ix2 r g))) r g 1 (by show (r.val * 1024 + g.val) / 1024 = r.val; have := g.isLt; omega)
      (by show (r.val * 1024 + g.val) / 1 % 1024 = g.val; have := g.isLt; omega) rfl, v141_read, v141_read]
  rfl

theorem v174_read : val_main_v174 (F := Ideal) x1 x3 (ix2 r g)
    = max (lit 0x00000000#32) (enclSide (xyxy (prow x1 r)) (xyxy (trow x3 g)) 0 2)
      * max (lit 0x00000000#32) (enclSide (xyxy (prow x1 r)) (xyxy (trow x3 g)) 1 3) := by
  rw [val_main_v174_apply, val_main_v171_apply, val_main_v173_apply, val_main_v170_apply, val_main_v172_apply,
    at3 (idx_main_v170 (idx_main_v171 (ix2 r g))) r g 0 (by show (r.val * 1024 + g.val) / 1024 = r.val; have := g.isLt; omega)
      (by show (r.val * 1024 + g.val) / 1 % 1024 = g.val; have := g.isLt; omega) rfl,
    at3 (idx_main_v172 (idx_main_v173 (ix2 r g))) r g 1 (by show (r.val * 1024 + g.val) / 1024 = r.val; have := g.isLt; omega)
      (by show (r.val * 1024 + g.val) / 1 % 1024 = g.val; have := g.isLt; omega) rfl, v169_read, v169_read]
  rfl

theorem v152_read : val_main_v152 (F := Ideal) x1 x3 (ix2 r g) = unionOf (xyxy (prow x1 r)) (xyxy (trow x3 g)) := by
  rw [val_main_v152_apply, val_main_v151_apply, val_main_v149_apply, val_main_v147_apply, val_main_v150_apply, val_main_v148_apply,
    v146_read, at1 (idx_main_v147 (idx_main_v149 (ix2 r g))) r rfl, at1 (idx_main_v148 (idx_main_v150 (ix2 r g))) g rfl, v114_read, v125_read]
  rfl

theorem v178_read : val_main_v178 (F := Ideal) x1 x3 (ix2 r g)
    = - giouWith (max (lit 0x00000000#32) (enclSide (xyxy (prow x1 r)) (xyxy (trow x3 g)) 0 2)
      * max (lit 0x00000000#32) (enclSide (xyxy (prow x1 r)) (xyxy (trow x3 g)) 1 3)) (xyxy (prow x1 r)) (xyxy (trow x3 g)) := by
  rw [val_main_v178_apply, val_main_v177_apply, val_main_v153_apply, val_main_v176_apply, val_main_v175_apply, v146_read, v152_read, v174_read]
  rfl

end

section
variable (x1 : Boxes) (x3 : Targets) (b : Fin 8) (q : Fin 900) (g : Fin 128)

theorem v189_read : val_main_v189 (F := Ideal) x1 x3 (ix3 b q g) = l1Of (pbox x1 b q) (tbox x3 g) := by
  rw [val_main_v189_apply, val_main_v188_apply,
    at2 (idx_main_v188 (idx_main_v189 (ix3 b q g))) (row b q) (col g)
      (by show ((b.val * 900 + q.val) * 1024 + g.val) / 1024 = b.val * 900 + q.val; have := g.isLt; omega)
      (by show ((b.val * 900 + q.val) * 1024 + g.val) % 1024 = g.val; have := g.isLt; omega), v53_read, prow_row, trow_col]

theorem v191_read : val_main_v191 (F := Ideal) x1 x3 (ix3 b q g)
    = - giouWith (max (lit 0x00000000#32) (enclSide (xyxy (pbox x1 b q)) (xyxy (tbox x3 g)) 0 2)
      * max (lit 0x00000000#32) (enclSide (xyxy (pbox x1 b q)) (xyxy (tbox x3 g)) 1 3)) (xyxy (pbox x1 b q)) (xyxy (tbox x3 g)) := by
  rw [val_main_v191_apply, val_main_v190_apply,
    at2 (idx_main_v190 (idx_main_v191 (ix3 b q g))) (row b q) (col g)
      (by show ((b.val * 900 + q.val) * 1024 + g.val) / 1024 = b.val * 900 + q.val; have := g.isLt; omega)
      (by show ((b.val * 900 + q.val) * 1024 + g.val) % 1024 = g.val; have := g.isLt; omega), v178_read, prow_row, trow_col]

end

end Cert.ReferenceIdeal.Val
end
-- ==== Proof.RefGather.lean ====
/- The reference's two kinds of gather read at an index. -/
module

public import proofs.«01_k».proof.Proof.RefTools

@[expose] public section
set_option maxRecDepth 16384
noncomputable section

namespace Cert.ReferenceIdeal.Val

open Cert.ReferenceIdeal Cert.ReferenceIdeal.Gen Cert.ReferenceIdeal.Read
open Idealize.ShloMosaic Idealize.ShloMosaic.ValueIdx Matcher

/-- One column per target, taken at the position its start index names. -/
theorem takeColumn_apply {α : Type} (x : S7200x91.Idx → α) (idx : IVec S1024x1 32) (r : Fin 7200) (g : Fin 1024) : Host.gather gather_S7200x91_S1024x1_S7200x1024_0_1_n_n_1_1_72001 x idx (ix2 r g) = x (ix2 r ⟨min (idx (ix2 g 0)).toInt.toNat 90, by omega⟩) := by
  unfold Host.gather
  refine congrArg x (at2 _ _ _ ?_ ?_)
  · simp only [GatherDims.operandIdx]
    show GatherDims.start _ _ _ _ + _ + _ = r.val
    rw [GatherDims.batchCoord_eq_zero _ _ _ (by exact List.not_mem_nil)]
    unfold GatherDims.start
    rw [dif_neg (by decide), Nat.zero_add]
    unfold GatherDims.offCoord
    rw [dif_pos (by decide)]
    rfl
  · simp only [GatherDims.operandIdx]
    show GatherDims.start _ _ _ _ + _ + _ = _
    rw [GatherDims.batchCoord_eq_zero _ _ _ (by exact List.not_mem_nil), GatherDims.offCoord_eq_zero _ _ _ (by decide)]
    unfold GatherDims.start
    rw [dif_pos (by decide)]
    show min (idx _).toInt.toNat 90 = _
    congr 4
    exact at2 _ _ _ rfl rfl

/-- One map entry per query, taken at the three positions its start index names. -/
theorem takePixel_apply {α : Type} (x : S8x256x256.Idx → α) (idx : IVec S8x900x3 32) (b : Fin 8) (q : Fin 900) : Host.gather gather_S8x256x256_S8x900x3_S8x900_n_012_n_n_012_2_111 x idx (ix2 b q) = x (ix3 ⟨min (idx (ix3 b q 0)).toInt.toNat 7, by omega⟩ ⟨min (idx (ix3 b q 1)).toInt.toNat 255, by omega⟩ ⟨min (idx (ix3 b q 2)).toInt.toNat 255, by omega⟩) := by
  unfold Host.gather
  refine congrArg x (at3 _ _ _ _ ?_ ?_ ?_)
  all_goals
    simp only [GatherDims.operandIdx]
    show GatherDims.start _ _ _ _ + _ + _ = _
    rw [GatherDims.batchCoord_eq_zero _ _ _ (by exact List.not_mem_nil), GatherDims.offCoord_eq_zero _ _ _ (by decide)]
    unfold GatherDims.start
    rw [dif_pos (by decide)]
  · show min (idx _).toInt.toNat 7 = _
    congr 4
    exact at3 _ _ _ _ rfl rfl rfl
  · show min (idx _).toInt.toNat 255 = _
    congr 4
    exact at3 _ _ _ _ rfl rfl rfl
  · show min (idx _).toInt.toNat 255 = _
    congr 4
    exact at3 _ _ _ _ rfl rfl rfl

end Cert.ReferenceIdeal.Val
end
-- ==== Proof.Lits.lean ====
/- The literals as reals, the extended reals that are reals and how they combine, and the class cost in the two ways it
   is written. -/
module

public import proofs.«01_k».proof.Proof.Spec

@[expose] public section
noncomputable section

namespace Matcher

open Idealize.ShloMosaic

theorem lit_zero : lit 0x00000000#32 = ((0 : ℝ) : EReal) := by simp [Ideal.ofBits, Ideal.ieee, -EReal.coe_mul]
theorem lit_one : lit 0x3F800000#32 = ((1 : ℝ) : EReal) := by simp [Ideal.ofBits, Ideal.ieee, -EReal.coe_mul]; norm_num
theorem lit_two : lit 0x40000000#32 = ((2 : ℝ) : EReal) := by simp [Ideal.ofBits, Ideal.ieee, -EReal.coe_mul]; norm_num
theorem lit_five : lit 0x40A00000#32 = ((5 : ℝ) : EReal) := by simp [Ideal.ofBits, Ideal.ieee, -EReal.coe_mul]; norm_num
theorem lit_half : lit 0x3F000000#32 = ((1 / 2 : ℝ) : EReal) := by simp [Ideal.ofBits, Ideal.ieee, -EReal.coe_mul]; norm_num
theorem lit_quarter : lit 0x3E800000#32 = ((1 / 4 : ℝ) : EReal) := by simp [Ideal.ofBits, Ideal.ieee, -EReal.coe_mul]; norm_num
theorem lit_threequarters : lit 0x3F400000#32 = ((3 / 4 : ℝ) : EReal) := by simp [Ideal.ofBits, Ideal.ieee, -EReal.coe_mul]; norm_num
theorem lit_256 : lit 0x43800000#32 = ((256 : ℝ) : EReal) := by simp [Ideal.ofBits, Ideal.ieee, -EReal.coe_mul]; norm_num
theorem lit_255 : lit 0x437F0000#32 = ((255 : ℝ) : EReal) := by simp [Ideal.ofBits, Ideal.ieee, -EReal.coe_mul]; norm_num
theorem lit_tiny : ∃ e : ℝ, 0 < e ∧ lit 0x322BCC77#32 = (e : EReal) := by
  refine ⟨_, ?_, by simp [Ideal.ofBits, Ideal.ieee, -EReal.coe_mul]; rfl⟩
  norm_num
theorem lit_small : ∃ e : ℝ, 0 < e ∧ lit 0x358637BD#32 = (e : EReal) := by
  refine ⟨_, ?_, by simp [Ideal.ofBits, Ideal.ieee, -EReal.coe_mul]; rfl⟩
  norm_num

/-- The extended reals that are reals. -/
def IsReal (x : EReal) : Prop := ∃ r : ℝ, x = (r : EReal)

namespace IsReal
variable {x y : EReal}

theorem coe (r : ℝ) : IsReal (r : EReal) := ⟨r, rfl⟩
theorem add (hx : IsReal x) (hy : IsReal y) : IsReal (x + y) := by
  obtain ⟨a, rfl⟩ := hx; obtain ⟨b, rfl⟩ := hy; exact ⟨a + b, rfl⟩
theorem sub (hx : IsReal x) (hy : IsReal y) : IsReal (x - y) := by
  obtain ⟨a, rfl⟩ := hx; obtain ⟨b, rfl⟩ := hy; exact ⟨a - b, rfl⟩
theorem mul (hx : IsReal x) (hy : IsReal y) : IsReal (x * y) := by
  obtain ⟨a, rfl⟩ := hx; obtain ⟨b, rfl⟩ := hy; exact ⟨a * b, rfl⟩
theorem neg (hx : IsReal x) : IsReal (-x) := by
  obtain ⟨a, rfl⟩ := hx; exact ⟨-a, rfl⟩
theorem max (hx : IsReal x) (hy : IsReal y) : IsReal (Max.max x y) := by
  rcases max_choice x y with h | h <;> rw [h] <;> assumption
theorem min (hx : IsReal x) (hy : IsReal y) : IsReal (Min.min x y) := by
  rcases min_choice x y with h | h <;> rw [h] <;> assumption
theorem abs (hx : IsReal x) : IsReal (absE x) := hx.max hx.neg
theorem div (hx : IsReal x) (hy : IsReal y) (h0 : y ≠ 0) : IsReal (Ideal.div x y) := by
  obtain ⟨a, rfl⟩ := hx; obtain ⟨b, rfl⟩ := hy
  unfold Ideal.div
  rw [if_neg h0, ← EReal.coe_inv]
  exact ⟨a * b⁻¹, rfl⟩
theorem lt_top (hx : IsReal x) : x < ⊤ := by obtain ⟨a, rfl⟩ := hx; exact EReal.coe_lt_top a
theorem of_abs_lt (h : absE x < ⊤) : IsReal x := by
  induction x with
  | bot => exact absurd h (by simp [absE])
  | top => exact absurd h (by simp [absE])
  | coe r => exact ⟨r, rfl⟩
theorem of_nonneg_lt (h0 : 0 ≤ x) (h : x < ⊤) : IsReal x := by
  induction x with
  | bot => exact absurd h0 (by simp)
  | top => exact absurd h (by simp)
  | coe r => exact ⟨r, rfl⟩
theorem sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self _ _)).add (ih fun i hi => h i (Finset.mem_insert_of_mem hi))
end IsReal

/-- A quotient of reals. -/
theorem div_coe (a b : ℝ) (h : b ≠ 0) : Ideal.div (a : EReal) (b : EReal) = ((a / b : ℝ) : EReal) := by
  unfold Ideal.div
  rw [if_neg (by exact_mod_cast h), ← EReal.coe_inv, div_eq_mul_inv]; rfl

theorem zero_sub' (x : EReal) : lit 0x00000000#32 - x = -x := by
  rw [lit_zero, EReal.coe_zero, zero_sub]

/-- The logistic function takes values between 0 and 1. -/
theorem logistic_real (x : EReal) : ∃ p : ℝ, 0 ≤ p ∧ p ≤ 1 ∧ Ideal.logistic x = (p : EReal) := by
  unfold Ideal.logistic
  induction x with
  | bot =>
    refine ⟨0, le_rfl, zero_le_one, ?_⟩
    show Ideal.div 1 (1 + Ideal.exp (-⊥)) = _
    rw [EReal.neg_bot]
    show Ideal.div 1 (1 + ⊤) = _
    rw [EReal.add_top_of_ne_bot (by exact EReal.coe_ne_bot 1)]
    unfold Ideal.div
    simp
  | top =>
    refine ⟨1, zero_le_one, le_rfl, ?_⟩
    rw [EReal.neg_top]
    show Ideal.div 1 (1 + 0) = _
    unfold Ideal.div
    simp
  | coe r =>
    have h : (0 : ℝ) < 1 + Real.exp (-r) := by positivity
    refine ⟨1 / (1 + Real.exp (-r)), by positivity, ?_, ?_⟩
    · rw [div_le_one h]; have := Real.exp_pos (-r); linarith
    · exact div_coe 1 (1 + Real.exp (-r)) h.ne'

theorem log_pos_real (r : ℝ) (h : 0 < r) : Ideal.log (r : EReal) = ((Real.log r : ℝ) : EReal) := by
  show (if r ≤ 0 then ⊥ else (Real.log r : EReal)) = _
  rw [if_neg (not_le.mpr h)]

theorem pow_two_real (r : ℝ) : Ideal.pow (r : EReal) (lit 0x40000000#32) = (r : EReal) * (r : EReal) := by
  rw [lit_two]
  show ((Real.rpow r 2 : ℝ) : EReal) = _
  rw [← EReal.coe_mul]
  congr 1
  exact (Real.rpow_two r).trans (sq r)

/-- The class cost as the reference writes it, with powers and negations. -/
def classRef (p : EReal) : EReal :=
  (lit 0x3E800000#32 * Ideal.pow (lit 0x3F800000#32 - p) (lit 0x40000000#32)) * (-Ideal.log (p + lit 0x322BCC77#32))
    - (lit 0x3F400000#32 * Ideal.pow p (lit 0x40000000#32)) * (-Ideal.log ((lit 0x3F800000#32 - p) + lit 0x322BCC77#32))

theorem classRef_eq (p : ℝ) : classRef (p : EReal) = classOf (p : EReal) := by
  unfold classRef classOf
  rw [zero_sub', zero_sub', pow_two_real, lit_one, ← EReal.coe_sub, pow_two_real]

theorem classOf_real (p : ℝ) (h0 : 0 ≤ p) (h1 : p ≤ 1) : IsReal (classOf (p : EReal)) := by
  obtain ⟨e, he, hl⟩ := lit_tiny
  have hp := IsReal.coe p
  unfold classOf
  rw [hl, lit_one, lit_quarter, lit_threequarters, lit_zero, ← EReal.coe_sub, ← EReal.coe_add, ← EReal.coe_add,
    log_pos_real _ (by linarith), log_pos_real _ (by linarith)]
  exact (((IsReal.coe _).mul ((IsReal.coe _).mul (IsReal.coe _))).mul ((IsReal.coe _).sub (IsReal.coe _))).sub
    (((IsReal.coe _).mul ((IsReal.coe _).mul (IsReal.coe _))).mul ((IsReal.coe _).sub (IsReal.coe _)))

end Matcher
end
-- ==== Proof.Bilinear.lean ====
/- Interpolation by hat weights over a whole map equals the four-corner interpolation with zeros outside. -/
module

public import proofs.«01_k».proof.Proof.Lits

@[expose] public section
noncomputable section

namespace Matcher

open Idealize.ShloMosaic

/-- A row of 256 reals, zero outside. -/
def padded (v : Fin 256 → ℝ) (n : ℤ) : ℝ := if h : 0 ≤ n ∧ n ≤ 255 then v ⟨n.toNat, by omega⟩ else 0

theorem padded_lin (v w : Fin 256 → ℝ) (a b : ℝ) (n : ℤ) :
    padded (fun j => a * v j + b * w j) n = a * padded v n + b * padded w n := by
  unfold padded; split_ifs <;> ring

theorem sum_spike (v : Fin 256 → ℝ) (n : ℤ) (c : ℝ) : ∑ j : Fin 256, (if (j.val : ℤ) = n then c else 0) * v j = c * padded v n := by
  unfold padded
  split_ifs with h
  · rw [Finset.sum_eq_single (⟨n.toNat, by omega⟩ : Fin 256)]
    · rw [if_pos]
      show ((n.toNat : ℕ) : ℤ) = n
      omega
    · intro j _ hj
      rw [if_neg, zero_mul]
      intro e
      exact hj (Fin.ext (by show j.val = n.toNat; omega))
    · intro h'; exact absurd (Finset.mem_univ _) h'
  · rw [mul_zero]
    refine Finset.sum_eq_zero fun j _ => ?_
    have := j.isLt
    rw [if_neg (by omega), zero_mul]

/-- The hat function at an integer. -/
theorem hat_eq (x : ℝ) (j : ℤ) : max (1 - max ((j : ℝ) - x) (-((j : ℝ) - x))) 0
    = (if j = ⌊x⌋ then 1 - (x - ⌊x⌋) else 0) + (if j = ⌊x⌋ + 1 then x - ⌊x⌋ else 0) := by
  have h0 := Int.floor_le x
  have h1 := Int.lt_floor_add_one x
  rcases lt_trichotomy j ⌊x⌋ with h | h | h
  · rw [if_neg (by omega), if_neg (by omega)]
    have : (j : ℝ) + 1 ≤ ⌊x⌋ := by exact_mod_cast h
    rw [max_eq_right (by linarith : (j : ℝ) - x ≤ -((j : ℝ) - x)), max_eq_right (by linarith)]; ring
  · subst h
    rw [if_pos rfl, if_neg (by omega)]
    rw [max_eq_right (by linarith : ((⌊x⌋ : ℤ) : ℝ) - x ≤ -(((⌊x⌋ : ℤ) : ℝ) - x)), max_eq_left (by linarith)]; ring
  · rw [if_neg (by omega)]
    have h2 : (⌊x⌋ : ℝ) + 1 ≤ (j : ℝ) := by exact_mod_cast h
    rw [max_eq_left (by linarith : -((j : ℝ) - x) ≤ (j : ℝ) - x)]
    split_ifs with h3
    · subst h3; push_cast; rw [max_eq_left (by linarith)]; ring
    · have h4 : (⌊x⌋ : ℝ) + 2 ≤ (j : ℝ) := by
        have : ⌊x⌋ + 2 ≤ j := by omega
        exact_mod_cast this
      rw [max_eq_right (by linarith)]; ring

/-- One hat weight as a real. -/
def hatR (x : ℝ) (j : ℕ) : ℝ := max (1 - max ((j : ℝ) - x) (-((j : ℝ) - x))) 0

theorem sum_hat (v : Fin 256 → ℝ) (x : ℝ) :
    ∑ j : Fin 256, hatR x j.val * v j = (1 - (x - ⌊x⌋)) * padded v ⌊x⌋ + (x - ⌊x⌋) * padded v (⌊x⌋ + 1) := by
  rw [← sum_spike, ← sum_spike, ← Finset.sum_add_distrib]
  refine Finset.sum_congr rfl fun j _ => ?_
  rw [← add_mul]
  refine congrArg (· * v j) ?_
  exact_mod_cast hat_eq x j.val

/-- A map of reals, zero outside. -/
def pixel (a : Fin 256 → Fin 256 → ℝ) (m n : ℤ) : ℝ := padded (fun j => padded (fun i => a i j) m) n

/-- The four-corner interpolation. -/
def corners (a : Fin 256 → Fin 256 → ℝ) (y x : ℝ) : ℝ :=
  (((pixel a ⌊y⌋ ⌊x⌋ * (1 - (x - ⌊x⌋))) * (1 - (y - ⌊y⌋)) + (pixel a ⌊y⌋ (⌊x⌋ + 1) * (x - ⌊x⌋)) * (1 - (y - ⌊y⌋)))
    + (pixel a (⌊y⌋ + 1) ⌊x⌋ * (1 - (x - ⌊x⌋))) * (y - ⌊y⌋)) + (pixel a (⌊y⌋ + 1) (⌊x⌋ + 1) * (x - ⌊x⌋)) * (y - ⌊y⌋)

theorem sum_hats (a : Fin 256 → Fin 256 → ℝ) (y x : ℝ) :
    ∑ j : Fin 256, (∑ i : Fin 256, hatR y i.val * a i j) * hatR x j.val = corners a y x := by
  have e : ∀ j : Fin 256, (∑ i : Fin 256, hatR y i.val * a i j) * hatR x j.val
      = hatR x j.val * ((1 - (y - ⌊y⌋)) * padded (fun i => a i j) ⌊y⌋ + (y - ⌊y⌋) * padded (fun i => a i j) (⌊y⌋ + 1)) := fun j => by
    rw [sum_hat (fun i => a i j) y, mul_comm]
  rw [Finset.sum_congr rfl fun j _ => e j,
    sum_hat (fun j => (1 - (y - ⌊y⌋)) * padded (fun i => a i j) ⌊y⌋ + (y - ⌊y⌋) * padded (fun i => a i j) (⌊y⌋ + 1)) x,
    padded_lin (fun j => padded (fun i => a i j) ⌊y⌋), padded_lin (fun j => padded (fun i => a i j) ⌊y⌋)]
  unfold corners pixel
  ring

theorem hatOf_coe (x : ℝ) (i : Fin 256) : hatOf (x : EReal) i.val = ((hatR x i.val : ℝ) : EReal) := by
  unfold hatOf hatR
  rw [StableHlo.Predicate.toInt_ofNat_small i.val (by have := i.isLt; omega), lit_one, lit_zero]
  rw [show (((i.val : ℤ) : ℝ)) = ((i.val : ℕ) : ℝ) from Int.cast_natCast _]
  have hm : ∀ a b : ℝ, max (a : EReal) (b : EReal) = ((max a b : ℝ) : EReal) := fun a b => (EReal.coe_strictMono.monotone.map_max).symm
  unfold absE
  rw [← EReal.coe_sub, ← EReal.coe_neg, hm, ← EReal.coe_sub, hm]

/-- The kernel's sampled value, over reals. -/
theorem sampled_eq (d : Fin 256 → Fin 256 → EReal) (a : Fin 256 → Fin 256 → ℝ) (h : ∀ i j, d i j = (a i j : EReal)) (y x : ℝ) :
    ∑ j : Fin 256, (∑ i : Fin 256, hatOf (y : EReal) i.val * d i j) * hatOf (x : EReal) j.val = ((corners a y x : ℝ) : EReal) := by
  rw [← sum_hats, coe_sum]
  refine Finset.sum_congr rfl fun j _ => ?_
  rw [hatOf_coe, EReal.coe_mul, coe_sum]
  refine congrArg (· * _) (Finset.sum_congr rfl fun i _ => ?_)
  rw [hatOf_coe, h, EReal.coe_mul]

/-- A pixel coordinate turned into an index word: clipped, converted, and wrapped where negative. -/
def pixWord (z : EReal) : BitVec 32 :=
  let w : BitVec 32 := Ideal.fptosi 32 (min (((255#32 : BitVec 32).toInt : ℝ) : EReal) (max (((0#32 : BitVec 32).toInt : ℝ) : EReal) z))
  Scalar.select (IntOp.cmpi .slt w 0#32) (w + 256#32) w

/-- The pixel an index word names. -/
def pixAt (w : BitVec 32) : Fin 256 := ⟨min w.toInt.toNat 255, by omega⟩

/-- A map read at a pixel position, zero outside. -/
def fetchOf (d : Fin 256 → Fin 256 → EReal) (x y : EReal) : EReal :=
  Scalar.select (IntOp.andi (IntOp.andi (IntOp.andi (Ideal.cmp .oge x (lit 0x00000000#32)) (Ideal.cmp .ole x (lit 0x437F0000#32)))
    (Ideal.cmp .oge y (lit 0x00000000#32))) (Ideal.cmp .ole y (lit 0x437F0000#32))) (d (pixAt (pixWord y)) (pixAt (pixWord x))) (lit 0x00000000#32)

theorem pixAt_int (n : ℤ) (h0 : 0 ≤ n) (h1 : n ≤ 255) : (pixAt (pixWord ((n : ℝ) : EReal))).val = n.toNat := by
  have hc : min (((255#32 : BitVec 32).toInt : ℝ) : EReal) (max (((0#32 : BitVec 32).toInt : ℝ) : EReal) ((n : ℝ) : EReal)) = ((n : ℝ) : EReal) := by
    have e0 : (((0#32 : BitVec 32).toInt : ℝ) : EReal) = ((0 : ℝ) : EReal) := by norm_num
    have e1 : (((255#32 : BitVec 32).toInt : ℝ) : EReal) = ((255 : ℝ) : EReal) := by
      rw [show (255#32 : BitVec 32).toInt = 255 from by decide]; norm_num
    rw [e0, e1, max_eq_right (EReal.coe_le_coe_iff.mpr (by exact_mod_cast h0)), min_eq_right (EReal.coe_le_coe_iff.mpr (by exact_mod_cast h1))]
  have hw : Ideal.fptosi 32 ((n : ℝ) : EReal) = BitVec.ofNat 32 n.toNat := by
    unfold Ideal.fptosi
    show BitVec.ofInt 32 (max _ (min _ (if (0 : ℝ) ≤ (n : ℝ) then ⌊(n : ℝ)⌋ else ⌈(n : ℝ)⌉))) = _
    rw [if_pos (by exact_mod_cast h0), Int.floor_intCast, min_eq_right (by norm_num; omega), max_eq_right (by norm_num; omega)]
    rw [← BitVec.ofInt_natCast, Int.toNat_of_nonneg h0]
  have hn : n.toNat < 256 := by omega
  unfold pixWord
  simp only [hc, hw]
  generalize n.toNat = k at hn
  have hk : Scalar.select (IntOp.cmpi .slt (BitVec.ofNat 32 k) 0#32) (BitVec.ofNat 32 k + 256#32) (BitVec.ofNat 32 k) = BitVec.ofNat 32 k := by
    have hi := StableHlo.Predicate.toInt_ofNat_small k (by omega)
    unfold IntOp.cmpi
    rw [show (BitVec.ofNat 32 k).slt 0#32 = false from by
      simp only [BitVec.slt, hi]; simp]
    rfl
  rw [hk]
  unfold pixAt
  show min (BitVec.ofNat 32 k).toInt.toNat 255 = k
  rw [StableHlo.Predicate.toInt_ofNat_small k (by omega)]
  omega

theorem fetchOf_int (d : Fin 256 → Fin 256 → EReal) (a : Fin 256 → Fin 256 → ℝ) (h : ∀ i j, d i j = (a i j : EReal)) (m n : ℤ) :
    fetchOf d ((n : ℝ) : EReal) ((m : ℝ) : EReal) = ((pixel a m n : ℝ) : EReal) := by
  unfold fetchOf
  have c0 : ∀ k : ℤ, Ideal.cmp .oge ((k : ℝ) : EReal) (lit 0x00000000#32) = BitVec.ofBool (decide (0 ≤ k)) := fun k => by
    rw [lit_zero]
    refine congrArg BitVec.ofBool (decide_eq_decide.mpr ?_)
    rw [EReal.coe_le_coe_iff]; exact_mod_cast Iff.rfl
  have c1 : ∀ k : ℤ, Ideal.cmp .ole ((k : ℝ) : EReal) (lit 0x437F0000#32) = BitVec.ofBool (decide (k ≤ 255)) := fun k => by
    rw [lit_255]
    refine congrArg BitVec.ofBool (decide_eq_decide.mpr ?_)
    rw [EReal.coe_le_coe_iff]; exact_mod_cast Iff.rfl
  rw [c0, c1, c0, c1]
  unfold pixel padded
  by_cases h0 : 0 ≤ n <;> by_cases h1 : n ≤ 255 <;> by_cases h2 : 0 ≤ m <;> by_cases h3 : m ≤ 255
  case pos =>
    rw [dif_pos ⟨h0, h1⟩]
    beta_reduce
    rw [dif_pos ⟨h2, h3⟩, decide_eq_true h0, decide_eq_true h1, decide_eq_true h2, decide_eq_true h3]
    refine Eq.trans (h _ _) ?_
    rw [show pixAt (pixWord ((m : ℝ) : EReal)) = ⟨m.toNat, by omega⟩ from Fin.ext (pixAt_int m h2 h3),
      show pixAt (pixWord ((n : ℝ) : EReal)) = ⟨n.toNat, by omega⟩ from Fin.ext (pixAt_int n h0 h1)]
  all_goals
    simp only [h0, h1, h2, h3, decide_true, decide_false, and_true, true_and, and_false, false_and, dite_true, dite_false]
    exact lit_zero

end Matcher
end
-- ==== Proof.RefDensity.lean ====
/- The reference's density term: the normalized map sampled at a query's centre by the four surrounding pixels. -/
module

public import proofs.«01_k».proof.Proof.RefBox
public import proofs.«01_k».proof.Proof.RefGather
public import proofs.«01_k».proof.Proof.Bilinear

@[expose] public section
set_option maxRecDepth 16384
noncomputable section

namespace Cert.ReferenceIdeal.Val

open Cert.ReferenceIdeal Cert.ReferenceIdeal.Gen Cert.ReferenceIdeal.Read
open Idealize.ShloMosaic Idealize.ShloMosaic.ValueIdx Matcher

abbrev Maps := (⟨S8x1x256x256, .f32⟩ : BufTy).Contents (Elt Ideal)

/-- One image's map. -/
abbrev dmap (x4 : Maps) (b : Fin 8) : Fin 256 → Fin 256 → EReal := fun i j => x4 (ix4 b 0 i j)

theorem first_bot : (val_main_cst_23 (F := Ideal)) (Shape.Idx.first h_S_) = (⊥ : EReal) := by
  show Ideal.ofBits .f32 0xFF800000#32 = ⊥
  simp [Ideal.ofBits, Ideal.ieee, -EReal.coe_mul]

theorem reduces_map : S8x1x65536.Reduces [2] S8x1 := by decide

theorem v180_read (x4 : Maps) (b : Fin 8) : val_main_v180 (F := Ideal) x4 (ix2 b 0) = topOf (dmap x4 b) := by
  unfold val_main_v180
  refine (Host.reduce_eq_fold_single (a := 2) _ _ _ reducesTo_S8x1x65536_S8x1_d2 reduces_map h_S_ (ix2 b 0)).trans ?_
  have hv : ∀ k : Fin 65536, val_main_v179 (F := Ideal) x4 (reduces_map.lift (ix2 b 0) k)
      = dmap x4 b ⟨k.val / 256, by omega⟩ ⟨k.val % 256, by omega⟩ := fun k => by
    have hl : reduces_map.lift (ix2 b 0) k = ix3 b 0 k := at3 _ _ _ _ rfl rfl rfl
    rw [hl, val_main_v179_apply]
    refine congrArg x4 (at4 _ _ _ _ _ ?_ rfl ?_ ?_)
    all_goals have := b.isLt; have := k.isLt
    · show ((b.val * 1 + 0) * 65536 + k.val) / 65536 = b.val; omega
    · show ((b.val * 1 + 0) * 65536 + k.val) / 256 % 256 = k.val / 256; omega
    · show ((b.val * 1 + 0) * 65536 + k.val) % 256 = k.val % 256; omega
  refine eq_of_forall_ge_iff fun c => ?_
  rw [topOf_le_iff, first_bot]
  refine (Finset.fold_max_le c).trans ?_
  constructor
  · intro h i j
    have hk : i.val * 256 + j.val < 65536 := by have := i.isLt; have := j.isLt; omega
    have := h.2 (⟨i.val * 256 + j.val, hk⟩ : Fin 65536) (Finset.mem_univ _)
    have e := hv ⟨i.val * 256 + j.val, hk⟩
    have h1 : (⟨(i.val * 256 + j.val) / 256, by omega⟩ : Fin 256) = i := Fin.ext (by show (i.val * 256 + j.val) / 256 = i.val; have := j.isLt; omega)
    have h2 : (⟨(i.val * 256 + j.val) % 256, by omega⟩ : Fin 256) = j := Fin.ext (by show (i.val * 256 + j.val) % 256 = j.val; have := j.isLt; omega)
    refine le_trans (le_of_eq ?_) this
    refine Eq.trans ?_ e.symm
    show dmap x4 b i j = dmap x4 b ⟨(i.val * 256 + j.val) / 256, _⟩ ⟨(i.val * 256 + j.val) % 256, _⟩
    rw [h1, h2]
  · intro h
    exact ⟨bot_le, fun k _ => le_trans (le_of_eq (hv k)) (h _ _)⟩

theorem v204_read (x4 : Maps) (b : Fin 8) (i j : Fin 256) : val_main_v204 (F := Ideal) x4 (ix3 b i j) = normOf (dmap x4 b) i j := by
  rw [val_main_v204_apply, at4 (idx_main_v204 (ix3 b i j)) b 0 i j
    (by show ((b.val * 256 + i.val) * 256 + j.val) / 65536 = b.val; have := i.isLt; have := j.isLt; omega) rfl
    (by show ((b.val * 256 + i.val) * 256 + j.val) / 256 % 256 = i.val; have := i.isLt; have := j.isLt; omega)
    (by show ((b.val * 256 + i.val) * 256 + j.val) % 256 = j.val; have := i.isLt; have := j.isLt; omega)]
  rw [val_main_v185_apply, val_main_v184_apply, at4 (idx_main_v184 (ix4 b 0 i j)) b 0 0 0 rfl rfl rfl rfl,
    val_main_v183_apply, val_main_v181_apply, at2 (idx_main_v181 (ix4 b 0 0 0)) b 0 rfl rfl, v180_read]
  rfl

/-- A batch index needs no wrapping. -/
theorem wrap_batch (b : Fin 8) : (min (Scalar.select (IntOp.cmpi .slt (BitVec.ofNat 32 b.val) 0#32) (BitVec.ofNat 32 b.val + 8#32)
    (BitVec.ofNat 32 b.val)).toInt.toNat 7) = b.val := by
  revert b; decide

section
variable (x1 : Boxes) (x4 : Maps) (b : Fin 8) (q : Fin 900)

/-- A gathered pixel where the position is valid, zero elsewhere. -/
theorem fetch_read (V : IVec S8x900 1) (Z : S8x900.Idx → EReal) (y0 y1 y2 : IVec S8x900x1 32) (X Y : EReal)
    (hV : V (ix2 b q) = IntOp.andi (IntOp.andi (IntOp.andi (Ideal.cmp .oge X (lit 0x00000000#32)) (Ideal.cmp .ole X (lit 0x437F0000#32)))
      (Ideal.cmp .oge Y (lit 0x00000000#32))) (Ideal.cmp .ole Y (lit 0x437F0000#32)))
    (hZ : Z (ix2 b q) = lit 0x00000000#32)
    (h0 : y0 (ix3 b q 0) = Scalar.select (IntOp.cmpi .slt (BitVec.ofNat 32 b.val) 0#32) (BitVec.ofNat 32 b.val + 8#32) (BitVec.ofNat 32 b.val))
    (h1 : y1 (ix3 b q 0) = pixWord Y) (h2 : y2 (ix3 b q 0) = pixWord X) :
    select V (Host.gather gather_S8x256x256_S8x900x3_S8x900_n_012_n_n_012_2_111 (val_main_v204 (F := Ideal) x4)
      (concatenate S8x900x3 2 [⟨S8x900x1, y0⟩, ⟨S8x900x1, y1⟩, ⟨S8x900x1, y2⟩] concatenates_S8x900x1_S8x900x1_S8x900x1_S8x900x3_d2)) Z (ix2 b q)
      = fetchOf (normOf (dmap x4 b)) X Y := by
  rw [select_apply, takePixel_apply, hV, hZ]
  have c := layers3_apply (A := 8) (B := 900) y0 y1 y2 concatenates_S8x900x1_S8x900x1_S8x900x1_S8x900x3_d2 b q
  have c0 := (c 0).trans h0
  have c1 := (c 1).trans h1
  have c2 := (c 2).trans h2
  have key : ∀ (k0 : Fin 8) (k1 k2 : Fin 256), k0.val = b.val → k1.val = (pixAt (pixWord Y)).val → k2.val = (pixAt (pixWord X)).val →
      val_main_v204 (F := Ideal) x4 (ix3 k0 k1 k2) = normOf (dmap x4 b) (pixAt (pixWord Y)) (pixAt (pixWord X)) := fun k0 k1 k2 e0 e1 e2 => by
    rw [Fin.ext e0, Fin.ext e1, Fin.ext e2, v204_read]
  rw [key]
  · rfl
  · show min (BitVec.toInt _).toNat 7 = b.val
    rw [c0, wrap_batch]
  · show min (BitVec.toInt _).toNat 255 = min (pixWord Y).toInt.toNat 255
    rw [c1]
  · show min (BitVec.toInt _).toNat 255 = min (pixWord X).toInt.toNat 255
    rw [c2]

theorem v271_read : val_main_v271 (F := Ideal) x1 x4 (ix2 b q)
    = fetchOf (normOf (dmap x4 b)) (val_main_v221 (F := Ideal) x1 (ix2 b q)) (val_main_v222 (F := Ideal) x1 (ix2 b q)) := by
  unfold val_main_v271 val_main_v270 val_main_v269
  refine fetch_read x4 b q _ _ _ _ _ _ _ rfl rfl ?_ ?_ ?_
  · rw [val_main_v266_apply, at2 (idx_main_v266 (ix3 b q 0)) b q rfl rfl, val_main_v265_apply, at2 (idx_main_v265 (ix2 b q)) b 0 rfl rfl]
    rfl
  · rw [val_main_v267_apply, at2 (idx_main_v267 (ix3 b q 0)) b q rfl rfl]
    rfl
  · rw [val_main_v268_apply, at2 (idx_main_v268 (ix3 b q 0)) b q rfl rfl]
    rfl

theorem v312_read : val_main_v312 (F := Ideal) x1 x4 (ix2 b q)
    = fetchOf (normOf (dmap x4 b)) (val_main_v224 (F := Ideal) x1 (ix2 b q)) (val_main_v222 (F := Ideal) x1 (ix2 b q)) := by
  unfold val_main_v312 val_main_v311 val_main_v310
  refine fetch_read x4 b q _ _ _ _ _ _ _ rfl rfl ?_ ?_ ?_
  · rw [val_main_v307_apply, at2 (idx_main_v307 (ix3 b q 0)) b q rfl rfl, val_main_v306_apply, at2 (idx_main_v306 (ix2 b q)) b 0 rfl rfl]
    rfl
  · rw [val_main_v308_apply, at2 (idx_main_v308 (ix3 b q 0)) b q rfl rfl]
    rfl
  · rw [val_main_v309_apply, at2 (idx_main_v309 (ix3 b q 0)) b q rfl rfl]
    rfl

theorem v354_read : val_main_v354 (F := Ideal) x1 x4 (ix2 b q)
    = fetchOf (normOf (dmap x4 b)) (val_main_v221 (F := Ideal) x1 (ix2 b q)) (val_main_v226 (F := Ideal) x1 (ix2 b q)) := by
  unfold val_main_v354 val_main_v353 val_main_v352
  refine fetch_read x4 b q _ _ _ _ _ _ _ rfl rfl ?_ ?_ ?_
  · rw [val_main_v349_apply, at2 (idx_main_v349 (ix3 b q 0)) b q rfl rfl, val_main_v348_apply, at2 (idx_main_v348 (ix2 b q)) b 0 rfl rfl]
    rfl
  · rw [val_main_v350_apply, at2 (idx_main_v350 (ix3 b q 0)) b q rfl rfl]
    rfl
  · rw [val_main_v351_apply, at2 (idx_main_v351 (ix3 b q 0)) b q rfl rfl]
    rfl

theorem v396_read : val_main_v396 (F := Ideal) x1 x4 (ix2 b q)
    = fetchOf (normOf (dmap x4 b)) (val_main_v224 (F := Ideal) x1 (ix2 b q)) (val_main_v226 (F := Ideal) x1 (ix2 b q)) := by
  unfold val_main_v396 val_main_v395 val_main_v394
  refine fetch_read x4 b q _ _ _ _ _ _ _ rfl rfl ?_ ?_ ?_
  · rw [val_main_v391_apply, at2 (idx_main_v391 (ix3 b q 0)) b q rfl rfl, val_main_v390_apply, at2 (idx_main_v390 (ix2 b q)) b 0 rfl rfl]
    rfl
  · rw [val_main_v392_apply, at2 (idx_main_v392 (ix3 b q 0)) b q rfl rfl]
    rfl
  · rw [val_main_v393_apply, at2 (idx_main_v393 (ix3 b q 0)) b q rfl rfl]
    rfl

theorem v212_read : val_main_v212 (F := Ideal) x1 (ix2 b q) = pixOf (x1 (ix3 b q 0)) := by
  have e : val_main_v193 (F := Ideal) x1 (ix2 b q) = x1 (ix3 b q 0) := by
    rw [val_main_v193_apply, val_main_v192_apply]
    exact congrArg x1 (at3 _ _ _ _ (by show (b.val * 900 + q.val) / 900 = b.val; have := q.isLt; omega)
      (by show (b.val * 900 + q.val) / 1 % 900 = q.val; have := q.isLt; omega) rfl)
  rw [← e]; rfl

theorem v220_read : val_main_v220 (F := Ideal) x1 (ix2 b q) = pixOf (x1 (ix3 b q 1)) := by
  have e : val_main_v199 (F := Ideal) x1 (ix2 b q) = x1 (ix3 b q 1) := by
    rw [val_main_v199_apply, val_main_v198_apply]
    exact congrArg x1 (at3 _ _ _ _ (by show (b.val * 900 + q.val) / 900 = b.val; have := q.isLt; omega)
      (by show (b.val * 900 + q.val) / 1 % 900 = q.val; have := q.isLt; omega) rfl)
  rw [← e]; rfl

/-- The sampled density of a query whose centre is finite, over a map of reals. -/
theorem v399_read (a : Fin 256 → Fin 256 → ℝ) (ha : ∀ i j, normOf (dmap x4 b) i j = (a i j : EReal)) (x y : ℝ)
    (hx : pixOf (x1 (ix3 b q 0)) = (x : EReal)) (hy : pixOf (x1 (ix3 b q 1)) = (y : EReal)) :
    val_main_v399 (F := Ideal) x1 x4 (ix2 b q) = ((corners a y x : ℝ) : EReal) := by
  have e212 := (v212_read x1 b q).trans hx
  have e220 := (v220_read x1 b q).trans hy
  have e221 : val_main_v221 (F := Ideal) x1 (ix2 b q) = (((⌊x⌋ : ℤ) : ℝ) : EReal) := by
    rw [val_main_v221_apply, e212]; rfl
  have e222 : val_main_v222 (F := Ideal) x1 (ix2 b q) = (((⌊y⌋ : ℤ) : ℝ) : EReal) := by
    rw [val_main_v222_apply, e220]; rfl
  have e224 : val_main_v224 (F := Ideal) x1 (ix2 b q) = (((⌊x⌋ + 1 : ℤ) : ℝ) : EReal) := by
    rw [val_main_v224_apply, e221]
    show _ + lit 0x3F800000#32 = _
    rw [lit_one, ← EReal.coe_add]; push_cast; rfl
  have e226 : val_main_v226 (F := Ideal) x1 (ix2 b q) = (((⌊y⌋ + 1 : ℤ) : ℝ) : EReal) := by
    rw [val_main_v226_apply, e222]
    show _ + lit 0x3F800000#32 = _
    rw [lit_one, ← EReal.coe_add]; push_cast; rfl
  have e227 : val_main_v227 (F := Ideal) x1 (ix2 b q) = ((x - ⌊x⌋ : ℝ) : EReal) := by
    rw [val_main_v227_apply, e212, e221]; rfl
  have e230 : val_main_v230 (F := Ideal) x1 (ix2 b q) = ((y - ⌊y⌋ : ℝ) : EReal) := by
    rw [val_main_v230_apply, e220, e222]; rfl
  have e229 : val_main_v229 (F := Ideal) x1 (ix2 b q) = ((1 - (x - ⌊x⌋) : ℝ) : EReal) := by
    rw [val_main_v229_apply, e227]
    show lit 0x3F800000#32 - _ = _
    rw [lit_one]; rfl
  have e232 : val_main_v232 (F := Ideal) x1 (ix2 b q) = ((1 - (y - ⌊y⌋) : ℝ) : EReal) := by
    rw [val_main_v232_apply, e230]
    show lit 0x3F800000#32 - _ = _
    rw [lit_one]; rfl
  rw [val_main_v399_apply, val_main_v398_apply, val_main_v397_apply, val_main_v357_apply, val_main_v356_apply, val_main_v355_apply,
    val_main_v315_apply, val_main_v314_apply, val_main_v313_apply, val_main_v273_apply, val_main_v272_apply,
    v271_read, v312_read, v354_read, v396_read, e221, e222, e224, e226, e227, e229, e230, e232,
    fetchOf_int _ a ha, fetchOf_int _ a ha, fetchOf_int _ a ha, fetchOf_int _ a ha]
  rfl

theorem v403_read (g : Fin 128) : val_main_v403 (F := Ideal) x1 x4 (ix3 b q g) = - val_main_v399 (F := Ideal) x1 x4 (ix2 b q) := by
  rw [val_main_v403_apply, val_main_v402_apply, val_main_v401_apply, val_main_v400_apply]
  refine congrArg (fun z => -(val_main_v399 (F := Ideal) x1 x4 z)) (at2 _ _ _ ?_ ?_)
  · show ((b.val * 900 + q.val) * 128 + g.val) / 115200 = b.val; have := q.isLt; have := g.isLt; omega
  · show ((b.val * 900 + q.val) * 128 + g.val) / 128 % 900 = q.val; have := q.isLt; have := g.isLt; omega

end

end Cert.ReferenceIdeal.Val
end
-- ==== Proof.RefClass.lean ====
/- The reference's class cost of a query at a target whose label is a class. -/
module

public import proofs.«01_k».proof.Proof.RefBox
public import proofs.«01_k».proof.Proof.RefGather
public import proofs.«01_k».proof.Proof.Lits

@[expose] public section
set_option maxRecDepth 16384
noncomputable section

namespace Cert.ReferenceIdeal.Val

open Cert.ReferenceIdeal Cert.ReferenceIdeal.Gen Cert.ReferenceIdeal.Read
open Idealize.ShloMosaic Idealize.ShloMosaic.ValueIdx Matcher

abbrev Logits := (⟨S8x900x91, .f32⟩ : BufTy).Contents (Elt Ideal)
abbrev Labels := (⟨S8x128, .i32⟩ : BufTy).Contents (Elt Ideal)

variable (x0 : Logits) (x2 : Labels)

theorem v0_read (b : Fin 8) (q : Fin 900) (k : Fin 91) : val_main_v0 (F := Ideal) x0 (ix2 (row b q) k) = x0 (ix3 b q k) := by
  refine (val_main_v0_apply x0 _).trans (congrArg x0 (at3 _ _ _ _ ?_ ?_ ?_))
  all_goals
    have := b.isLt; have := q.isLt; have := k.isLt
  · show ((b.val * 900 + q.val) * 91 + k.val) / 81900 = b.val; omega
  · show ((b.val * 900 + q.val) * 91 + k.val) / 91 % 900 = q.val; omega
  · show ((b.val * 900 + q.val) * 91 + k.val) % 91 = k.val; omega

theorem v6_read (r : Fin 7200) (k : Fin 91) : val_main_v6 (F := Ideal) x0 (ix2 r k) = Ideal.logistic (val_main_v0 (F := Ideal) x0 (ix2 r k)) := by
  show Ideal.div (lit 0x3F800000#32) (lit 0x3F800000#32 + Ideal.exp (-(val_main_v0 (F := Ideal) x0 (ix2 r k)))) = _
  rw [lit_one]; rfl

theorem v8_read (g : Fin 128) : val_main_v8 (F := Ideal) x2 (ix1 (col g)) = x2 (ix2 0 g) := by
  refine (val_main_v8_apply x2 _).trans (congrArg x2 (at2 _ _ _ ?_ ?_))
  · show g.val / 128 = 0; omega
  · show g.val % 128 = g.val; omega

/-- A label below the number of classes needs no wrapping. -/
theorem wrap_label (l : Fin 91) : Scalar.select (IntOp.cmpi .slt (BitVec.ofNat 32 l.val) 0#32) (BitVec.ofNat 32 l.val + 91#32)
    (BitVec.ofNat 32 l.val) = BitVec.ofNat 32 l.val := by
  revert l; decide

variable (g : Fin 128) (l : Fin 91) (hl : x2 (ix2 0 g) = BitVec.ofNat 32 l.val)
include hl

theorem v37_read : val_main_v37 (F := Ideal) x2 (ix2 (col g) 0) = BitVec.ofNat 32 l.val := by
  rw [val_main_v37_apply, at1 (idx_main_v37 (ix2 (col g) 0)) (col g) rfl]
  show Scalar.select (IntOp.cmpi .slt (val_main_v8 (F := Ideal) x2 (ix1 (col g))) 0#32) (val_main_v8 (F := Ideal) x2 (ix1 (col g)) + 91#32)
    (val_main_v8 (F := Ideal) x2 (ix1 (col g))) = _
  rw [v8_read, hl, wrap_label]

theorem v44_read : val_main_v44 (F := Ideal) x2 (ix2 (col g) 0) = BitVec.ofNat 32 l.val := by
  rw [val_main_v44_apply, at1 (idx_main_v44 (ix2 (col g) 0)) (col g) rfl]
  show Scalar.select (IntOp.cmpi .slt (val_main_v8 (F := Ideal) x2 (ix1 (col g))) 0#32) (val_main_v8 (F := Ideal) x2 (ix1 (col g)) + 91#32)
    (val_main_v8 (F := Ideal) x2 (ix1 (col g))) = _
  rw [v8_read, hl, wrap_label]

theorem v46_read (b : Fin 8) (q : Fin 900) : val_main_v46 (F := Ideal) x0 x2 (ix2 (row b q) (col g)) = classOf (Ideal.logistic (x0 (ix3 b q l))) := by
  have hm : (⟨min (BitVec.ofNat 32 l.val).toInt.toNat 90, by omega⟩ : Fin 91) = l := by
    have := l.isLt
    apply Fin.ext
    show min (BitVec.ofNat 32 l.val).toInt.toNat 90 = l.val
    rw [StableHlo.Predicate.toInt_ofNat_small l.val (by omega)]
    omega
  rw [val_main_v46_apply]
  unfold val_main_v38 val_main_v45
  rw [takeColumn_apply, takeColumn_apply]
  simp only [v37_read x2 g l hl, v44_read x2 g l hl, hm]
  refine Eq.trans (b := classRef (val_main_v6 (F := Ideal) x0 (ix2 (row b q) l))) rfl ?_
  rw [v6_read, v0_read]
  obtain ⟨p, _, _, hp⟩ := logistic_real (x0 (ix3 b q l))
  rw [hp, classRef_eq]

theorem v187_read (b : Fin 8) (q : Fin 900) : val_main_v187 (F := Ideal) x0 x2 (ix3 b q g) = classOf (Ideal.logistic (x0 (ix3 b q l))) := by
  rw [val_main_v187_apply, val_main_v186_apply,
    at2 (idx_main_v186 (idx_main_v187 (ix3 b q g))) (row b q) (col g)
      (by show ((b.val * 900 + q.val) * 1024 + g.val) / 1024 = b.val * 900 + q.val; have := g.isLt; omega)
      (by show ((b.val * 900 + q.val) * 1024 + g.val) % 1024 = g.val; have := g.isLt; omega), v46_read x0 x2 g l hl]

end Cert.ReferenceIdeal.Val
end
-- ==== Proof.Geometry.lean ====
/- On boxes of reals with sides that are not negative the overlap of a query and a target is a real, and the clip of the enclosing
   box's sides changes nothing. -/
module

public import proofs.«01_k».proof.Proof.Lits

@[expose] public section
noncomputable section

namespace Matcher

open Idealize.ShloMosaic Idealize.ShloMosaic.ValueIdx

/-- The corners of a centre/size box of reals. -/
def cornersR (r : Fin 4 → ℝ) : Fin 4 → ℝ :=
  ![r 0 - 1 / 2 * r 2, r 1 - 1 / 2 * r 3, r 0 + 1 / 2 * r 2, r 1 + 1 / 2 * r 3]

theorem xyxy_coe (r : Fin 4 → ℝ) : xyxy (fun c => (r c : EReal)) = fun c => ((cornersR r c : ℝ) : EReal) := by
  funext c
  unfold xyxy cornersR
  rw [lit_half]
  fin_cases c <;> rfl

theorem max_coe (a b : ℝ) : max (a : EReal) (b : EReal) = ((max a b : ℝ) : EReal) := (EReal.coe_strictMono.monotone.map_max).symm
theorem min_coe (a b : ℝ) : min (a : EReal) (b : EReal) = ((min a b : ℝ) : EReal) := (EReal.coe_strictMono.monotone.map_min).symm

section
variable (P T : Fin 4 → ℝ)

def interR (lo hi : Fin 4) : ℝ := max 0 (min (P hi) (T hi) - max (P lo) (T lo))
def enclR (lo hi : Fin 4) : ℝ := max (P hi) (T hi) - min (P lo) (T lo)
def unionR : ℝ := ((P 2 - P 0) * (P 3 - P 1) + (T 2 - T 0) * (T 3 - T 1)) - interR P T 0 2 * interR P T 1 3

theorem interSide_coe (lo hi : Fin 4) : interSide (fun c => (P c : EReal)) (fun c => (T c : EReal)) lo hi = (interR P T lo hi : EReal) := by
  unfold interSide interR
  rw [lit_zero, max_coe, min_coe, ← EReal.coe_sub, max_coe]

theorem enclSide_coe (lo hi : Fin 4) : enclSide (fun c => (P c : EReal)) (fun c => (T c : EReal)) lo hi = (enclR P T lo hi : EReal) := by
  unfold enclSide enclR
  rw [max_coe, min_coe, ← EReal.coe_sub]

theorem unionOf_coe : unionOf (fun c => (P c : EReal)) (fun c => (T c : EReal)) = (unionR P T : EReal) := by
  unfold unionOf unionR areaOf interOf
  rw [interSide_coe, interSide_coe]
  simp only [← EReal.coe_sub, ← EReal.coe_mul, ← EReal.coe_add]

theorem interR_nonneg (lo hi : Fin 4) : 0 ≤ interR P T lo hi := le_max_left _ _

theorem interR_le (lo hi : Fin 4) (h : T lo ≤ T hi) : interR P T lo hi ≤ T hi - T lo :=
  max_le (by linarith) (by have := min_le_right (P hi) (T hi); have := le_max_right (P lo) (T lo); linarith)

theorem enclR_pos (lo hi : Fin 4) (h : P lo < P hi) : 0 < enclR P T lo hi := by
  unfold enclR
  have := le_max_left (P hi) (T hi); have := min_le_left (P lo) (T lo); linarith

theorem unionR_pos (h0 : P 0 < P 2) (h1 : P 1 < P 3) (h2 : T 0 ≤ T 2) (h3 : T 1 ≤ T 3) : 0 < unionR P T := by
  unfold unionR
  have a := mul_pos (sub_pos.mpr h0) (sub_pos.mpr h1)
  have b := mul_le_mul (interR_le P T 0 2 h2) (interR_le P T 1 3 h3) (interR_nonneg P T 1 3) (sub_nonneg.mpr h2)
  linarith

end

section
variable (b t : Fin 4 → EReal) (hb : ∀ c, IsReal (b c)) (ht : ∀ c, IsReal (t c))
  (b2 : 0 < b 2) (b3 : 0 < b 3) (t2 : 0 ≤ t 2) (t3 : 0 ≤ t 3)
include hb ht b2 b3 t2 t3

/-- The boxes as boxes of reals, with their sides ordered. -/
theorem real_boxes : ∃ P T : Fin 4 → ℝ, xyxy b = (fun c => ((P c : ℝ) : EReal)) ∧ xyxy t = (fun c => ((T c : ℝ) : EReal))
    ∧ P 0 < P 2 ∧ P 1 < P 3 ∧ T 0 ≤ T 2 ∧ T 1 ≤ T 3 := by
  choose r hr using hb
  choose s hs using ht
  obtain rfl : b = fun c => (r c : EReal) := funext hr
  obtain rfl : t = fun c => (s c : EReal) := funext hs
  have r2 : 0 < r 2 := EReal.coe_pos.mp b2
  have r3 : 0 < r 3 := EReal.coe_pos.mp b3
  have s2 : 0 ≤ s 2 := EReal.coe_nonneg.mp t2
  have s3 : 0 ≤ s 3 := EReal.coe_nonneg.mp t3
  refine ⟨cornersR r, cornersR s, xyxy_coe r, xyxy_coe s, ?_, ?_, ?_, ?_⟩
  · show r 0 - 1 / 2 * r 2 < r 0 + 1 / 2 * r 2; linarith
  · show r 1 - 1 / 2 * r 3 < r 1 + 1 / 2 * r 3; linarith
  · show s 0 - 1 / 2 * s 2 ≤ s 0 + 1 / 2 * s 2; linarith
  · show s 1 - 1 / 2 * s 3 ≤ s 1 + 1 / 2 * s 3; linarith

/-- Clipping the enclosing box's sides at zero does nothing. -/
theorem clip_encl : max (lit 0x00000000#32) (enclSide (xyxy b) (xyxy t) 0 2) = enclSide (xyxy b) (xyxy t) 0 2
    ∧ max (lit 0x00000000#32) (enclSide (xyxy b) (xyxy t) 1 3) = enclSide (xyxy b) (xyxy t) 1 3 := by
  obtain ⟨P, T, hP, hT, h0, h1, -, -⟩ := real_boxes b t hb ht b2 b3 t2 t3
  rw [hP, hT, enclSide_coe, enclSide_coe, lit_zero]
  exact ⟨max_eq_right (EReal.coe_le_coe_iff.mpr (enclR_pos P T 0 2 h0).le), max_eq_right (EReal.coe_le_coe_iff.mpr (enclR_pos P T 1 3 h1).le)⟩

/-- The generalized overlap is a real. -/
theorem giou_real : IsReal (giouWith (enclSide (xyxy b) (xyxy t) 0 2 * enclSide (xyxy b) (xyxy t) 1 3) (xyxy b) (xyxy t)) := by
  obtain ⟨P, T, hP, hT, h0, h1, h2, h3⟩ := real_boxes b t hb ht b2 b3 t2 t3
  unfold giouWith interOf
  rw [hP, hT, enclSide_coe, enclSide_coe, unionOf_coe, interSide_coe, interSide_coe]
  have u := unionR_pos P T h0 h1 h2 h3
  have e := mul_pos (enclR_pos P T 0 2 h0) (enclR_pos P T 1 3 h1)
  simp only [← EReal.coe_mul, ← EReal.coe_sub]
  rw [div_coe _ _ u.ne', div_coe _ _ e.ne']
  exact IsReal.sub (IsReal.coe _) (IsReal.coe _)

end

theorem l1_real (b t : Fin 4 → EReal) (hb : ∀ c, IsReal (b c)) (ht : ∀ c, IsReal (t c)) : IsReal (l1Of b t) :=
  (((((hb 0).sub (ht 0)).abs).add ((hb 1).sub (ht 1)).abs).add ((hb 2).sub (ht 2)).abs).add ((hb 3).sub (ht 3)).abs

theorem pix_real (c : EReal) (h : IsReal c) : IsReal (pixOf c) := by
  unfold pixOf
  rw [lit_two, lit_one, lit_256]
  exact IsReal.div (.sub (.mul (.add (.sub (.mul h (.coe _)) (.coe _)) (.coe _)) (.coe _)) (.coe _)) (.coe _)
    (by intro h; exact absurd (EReal.coe_eq_zero.mp h) (by norm_num))

/-- A map that is nowhere negative, divided by its greatest entry, is a map of reals (all zero where that entry is infinite). -/
theorem norm_real (d : Fin 256 → Fin 256 → EReal) (h0 : ∀ i j, 0 ≤ d i j) (i j : Fin 256) : IsReal (normOf d i j) := by
  have t0 : 0 ≤ topOf d := (h0 0 0).trans ((topOf_le_iff d (topOf d)).mp le_rfl 0 0)
  obtain ⟨e, he, hs⟩ := lit_small
  unfold normOf
  rw [hs]
  rcases eq_or_ne (topOf d) ⊤ with h | h
  · rw [h, EReal.top_add_coe]
    unfold Ideal.div
    rw [if_neg EReal.top_ne_zero, EReal.inv_top, mul_zero]
    exact IsReal.coe 0
  · have t1 : topOf d < ⊤ := lt_top_iff_ne_top.mpr h
    obtain ⟨t, ht⟩ := IsReal.of_nonneg_lt t0 t1
    have tn : 0 ≤ t := EReal.coe_nonneg.mp (ht ▸ t0)
    refine (IsReal.of_nonneg_lt (h0 i j) (((topOf_le_iff d (topOf d)).mp le_rfl i j).trans_lt t1)).div (ht ▸ .coe _) fun hz => ?_
    rw [ht, ← EReal.coe_add] at hz
    have := EReal.coe_eq_zero.mp hz
    linarith

/-- Four real parts weigh up to a real. -/
theorem mix_real (box cls giou dens : EReal) (h0 : IsReal box) (h1 : IsReal cls) (h2 : IsReal giou) (h3 : IsReal dens) :
    IsReal (mixOf box cls giou dens) := by
  unfold mixOf
  rw [lit_five, lit_two, lit_one]
  exact .add (.add (.add (.mul (.coe _) h0) (.mul (.coe _) h1)) (.mul (.coe _) h2)) (.mul (.coe _) h3)

end Matcher
end
-- ==== Proof.KernelCost.lean ====
/- The kernel's cost block read entry by entry at the ideal values. -/
module

public import proofs.«01_k».proof.Proof.KernelBlock
public import proofs.«01_k».proof.Proof.Spec
public import Idealize.ShloMosaic.Lib.MatmulPlain

@[expose] public section
set_option maxRecDepth 16384
noncomputable section

namespace Cert.KernelIdeal.Val

open Cert.KernelIdeal Cert.KernelIdeal.Gen
open Idealize.ShloMosaic Idealize.ShloMosaic.ValueIdx Matcher

/-- One query's predicted box. -/
abbrev kb (x1 : Vec Ideal S1x900x4 .f32) (q : Fin 900) : Fin 4 → EReal := fun c => x1 (ix3 0 q c)
/-- One target box of image 0. -/
abbrev kt (x3 : Vec Ideal S8x4x128 .f32) (g : Fin 128) : Fin 4 → EReal := fun c => x3 (ix3 0 c g)

section Boxes
variable (x1 : Vec Ideal S1x900x4 .f32) (x3 : Vec Ideal S8x4x128 .f32) (q : Fin 900) (g : Fin 128)

theorem pay4_apply (c : Fin 4) : k0_pay4 x1 (ix2 q c) = x1 (ix3 0 q c) := shapeCast_1ab_ab_apply _ _ _ _
theorem pay5_apply : k0_pay5 x1 (ix2 q 0) = kb x1 q 0 := by
  unfold k0_pay5; exact (slice2_axis1_apply 0 _ _ q 0 0 rfl).trans (pay4_apply x1 q 0)
theorem pay6_apply : k0_pay6 x1 (ix2 q 0) = kb x1 q 1 := by
  unfold k0_pay6; exact (slice2_axis1_apply 1 _ _ q 0 1 rfl).trans (pay4_apply x1 q 1)
theorem pay7_apply : k0_pay7 x1 (ix2 q 0) = kb x1 q 2 := by
  unfold k0_pay7; exact (slice2_axis1_apply 2 _ _ q 0 2 rfl).trans (pay4_apply x1 q 2)
theorem pay8_apply : k0_pay8 x1 (ix2 q 0) = kb x1 q 3 := by
  unfold k0_pay8; exact (slice2_axis1_apply 3 _ _ q 0 3 rfl).trans (pay4_apply x1 q 3)

theorem tgt_apply (c : Fin 4) (inb : ∀ a, (![0, c.val, 0] : Fin 3 → ℕ) a + (![1, 1, 128] : Fin 3 → ℕ) a ≤ S8x4x128.size a) :
    shapeCast S1x128 (View.ld x3 (Rect.unit (s := S8x4x128) ![0, c.val, 0] ![1, 1, 128] inb) : Vec Ideal S1x1x128 .f32)
      shapeCasts_S1x1x128_S1x128 (ix2 0 g) = kt x3 g c := by
  refine (shapeCast_1ab_ab_apply (a := 1) (b := 128) _ _ 0 g).trans ?_
  rw [View.ld_unit]
  refine congrArg x3 (funext fun a => Fin.ext ?_)
  match a with
  | ⟨0, _⟩ => rfl
  | ⟨1, _⟩ => rfl
  | ⟨2, _⟩ => exact Nat.zero_add _

theorem pay9_apply : k0_pay9 (tgt0 x3) (ix2 0 g) = kt x3 g 0 := tgt_apply x3 g 0 _
theorem pay10_apply : k0_pay10 (tgt1 x3) (ix2 0 g) = kt x3 g 1 := tgt_apply x3 g 1 _
theorem pay11_apply : k0_pay11 (tgt2 x3) (ix2 0 g) = kt x3 g 2 := tgt_apply x3 g 2 _
theorem pay12_apply : k0_pay12 (tgt3 x3) (ix2 0 g) = kt x3 g 3 := tgt_apply x3 g 3 _

theorem kBox_apply : kBox x1 x3 (ix2 q g) = l1Of (kb x1 q) (kt x3 g) := by
  unfold kBox k0_pay13
  simp only [addf_apply, subf_apply, show ∀ (a : FVec Ideal S900x128 .f32) i, absf a i = absE (a i) from fun _ _ => rfl,
    broadcastTo_col, broadcastTo_1b_ab_apply, pay5_apply, pay6_apply, pay7_apply, pay8_apply, pay9_apply, pay10_apply,
    pay11_apply, pay12_apply]
  rfl

theorem pay16_apply : k0_pay16 (k0_pay5 x1) (k0_pay7 x1) (ix2 q 0) = xyxy (kb x1 q) 0 := by
  show k0_pay5 x1 (ix2 q 0) - lit 0x3F000000#32 * k0_pay7 x1 (ix2 q 0) = _
  rw [pay5_apply, pay7_apply]; rfl
theorem pay17_apply : k0_pay17 (k0_pay6 x1) (k0_pay8 x1) (ix2 q 0) = xyxy (kb x1 q) 1 := by
  show k0_pay6 x1 (ix2 q 0) - lit 0x3F000000#32 * k0_pay8 x1 (ix2 q 0) = _
  rw [pay6_apply, pay8_apply]; rfl
theorem pay18_apply : k0_pay18 (k0_pay5 x1) (k0_pay7 x1) (ix2 q 0) = xyxy (kb x1 q) 2 := by
  show k0_pay5 x1 (ix2 q 0) + lit 0x3F000000#32 * k0_pay7 x1 (ix2 q 0) = _
  rw [pay5_apply, pay7_apply]; rfl
theorem pay19_apply : k0_pay19 (k0_pay6 x1) (k0_pay8 x1) (ix2 q 0) = xyxy (kb x1 q) 3 := by
  show k0_pay6 x1 (ix2 q 0) + lit 0x3F000000#32 * k0_pay8 x1 (ix2 q 0) = _
  rw [pay6_apply, pay8_apply]; rfl
theorem pay22_apply : k0_pay22 (tgt0 x3) (tgt2 x3) (ix2 0 g) = xyxy (kt x3 g) 0 := by
  show k0_pay9 (tgt0 x3) (ix2 0 g) - lit 0x3F000000#32 * k0_pay11 (tgt2 x3) (ix2 0 g) = _
  rw [pay9_apply, pay11_apply]; rfl
theorem pay23_apply : k0_pay23 (tgt1 x3) (tgt3 x3) (ix2 0 g) = xyxy (kt x3 g) 1 := by
  show k0_pay10 (tgt1 x3) (ix2 0 g) - lit 0x3F000000#32 * k0_pay12 (tgt3 x3) (ix2 0 g) = _
  rw [pay10_apply, pay12_apply]; rfl
theorem pay24_apply : k0_pay24 (tgt0 x3) (tgt2 x3) (ix2 0 g) = xyxy (kt x3 g) 2 := by
  show k0_pay9 (tgt0 x3) (ix2 0 g) + lit 0x3F000000#32 * k0_pay11 (tgt2 x3) (ix2 0 g) = _
  rw [pay9_apply, pay11_apply]; rfl
theorem pay25_apply : k0_pay25 (tgt1 x3) (tgt3 x3) (ix2 0 g) = xyxy (kt x3 g) 3 := by
  show k0_pay10 (tgt1 x3) (ix2 0 g) + lit 0x3F000000#32 * k0_pay12 (tgt3 x3) (ix2 0 g) = _
  rw [pay10_apply, pay12_apply]; rfl

theorem pay26_apply : k0_pay26 (k0_pay5 x1) (k0_pay6 x1) (k0_pay7 x1) (k0_pay8 x1) (ix2 q 0) = areaOf (xyxy (kb x1 q)) := by
  show (k0_pay18 (k0_pay5 x1) (k0_pay7 x1) (ix2 q 0) - k0_pay16 (k0_pay5 x1) (k0_pay7 x1) (ix2 q 0))
    * (k0_pay19 (k0_pay6 x1) (k0_pay8 x1) (ix2 q 0) - k0_pay17 (k0_pay6 x1) (k0_pay8 x1) (ix2 q 0)) = _
  rw [pay16_apply, pay17_apply, pay18_apply, pay19_apply]; rfl

theorem kGiou_apply : kGiou x1 x3 (ix2 q g)
    = lit 0x00000000#32 - giouWith (enclSide (xyxy (kb x1 q)) (xyxy (kt x3 g)) 0 2 * enclSide (xyxy (kb x1 q)) (xyxy (kt x3 g)) 1 3)
      (xyxy (kb x1 q)) (xyxy (kt x3 g)) := by
  unfold kGiou k0_pay28
  simp only [addf_apply, subf_apply, mulf_apply, divf_apply, maximumf_apply, minimumf_apply, broadcast_apply,
    broadcastTo_col, broadcastTo_1b_ab_apply, pay16_apply, pay17_apply, pay18_apply, pay19_apply, pay22_apply, pay23_apply,
    pay24_apply, pay25_apply, pay26_apply, show ∀ a b : Vec Ideal S1x1x128 .f32, k0_pay27 a b = subf (k0_pay24 a b) (k0_pay22 a b) from fun _ _ => rfl]
  rfl

end Boxes

section Density
variable (x1 : Vec Ideal S1x900x4 .f32) (x4 : Vec Ideal S1x256x256 .f32) (q : Fin 900)

theorem pay33_apply (i : Fin 256) : k0_pay33 (k0_pay6 x1) (ix2 q i) = hatOf (pixOf (kb x1 q 1)) i.val := by
  unfold k0_pay33
  simp only [maximumf_apply, subf_apply, broadcastTo_col, divf_apply, addf_apply, mulf_apply, broadcast_apply, pay6_apply,
    show ∀ (a : FVec Ideal S900x256 .f32) i, absf a i = absE (a i) from fun _ _ => rfl]
  unfold hatOf
  rw [show k0_pay32 (F := Ideal) (ix2 q i) = (((BitVec.ofNat 32 i.val).toInt : ℝ) : EReal) from ?_]
  · rfl
  · show FloatOps.sitofp (F := Ideal) .f32 (iota .tc S900x256 32 [1] iota_S900x256_d1_w32 (ix2 q i)) = _
    rw [iota_single_apply]; rfl

theorem pay34_apply (j : Fin 256) : k0_pay34 (k0_pay5 x1) (ix2 q j) = hatOf (pixOf (kb x1 q 0)) j.val := by
  unfold k0_pay34
  simp only [maximumf_apply, subf_apply, broadcastTo_col, divf_apply, addf_apply, mulf_apply, broadcast_apply, pay5_apply,
    show ∀ (a : FVec Ideal S900x256 .f32) i, absf a i = absE (a i) from fun _ _ => rfl]
  unfold hatOf
  rw [show k0_pay32 (F := Ideal) (ix2 q j) = (((BitVec.ofNat 32 j.val).toInt : ℝ) : EReal) from ?_]
  · rfl
  · show FloatOps.sitofp (F := Ideal) .f32 (iota .tc S900x256 32 [1] iota_S900x256_d1_w32 (ix2 q j)) = _
    rw [iota_single_apply]; rfl

/-- A block's map as a table. -/
abbrev kd : Fin 256 → Fin 256 → EReal := fun i j => x4 (ix3 0 i j)

theorem ofBits_bot : Ideal.ofBits .f32 0xFF800000#32 = (⊥ : EReal) := by
  simp [Ideal.ofBits, Ideal.ieee, -EReal.coe_mul]

instance : Subsingleton (⟨1, ![1]⟩ : Shape).Idx := ⟨fun a b => funext fun k => by
  obtain rfl : k = 0 := Subsingleton.elim _ _
  exact Subsingleton.elim (α := Fin 1) _ _⟩

theorem pay30_apply : k0_pay30 x4 = topOf (kd x4) := by
  unfold k0_pay30 k0_pay29
  show shapeCast S1x1x1 _ shapeCasts_S1_S1x1x1 (ix3 0 0 0) = _
  rw [shapeCast_apply _ shapeCasts_S1_S1x1x1 (ix3 0 0 0) (ix1 0) rfl]
  refine (multiReduction_maximumf_eq_fold _ _ _ _ _ _).trans ?_
  refine eq_of_forall_ge_iff fun c => ?_
  rw [topOf_le_iff]
  refine (Finset.fold_max_le c).trans ?_
  have hv : ∀ i j : Fin 256, shapeCast S1x256x256 (shapeCast S256x256 x4 shapeCasts_S1x256x256_S256x256)
      shapeCasts_S256x256_S1x256x256 (ix3 0 i j) = kd x4 i j := fun i j =>
    (shapeCast_ab_1ab_apply _ _ 0 i j).trans (shapeCast_1ab_ab_apply _ _ i j)
  constructor
  · intro h i j
    have := h.2 (ix3 0 i j) (Finset.mem_filter.mpr ⟨Finset.mem_univ _, Subsingleton.elim (α := (⟨1, ![1]⟩ : Shape).Idx) _ _⟩)
    exact (hv i j) ▸ this
  · intro h
    refine ⟨(le_of_eq ofBits_bot).trans bot_le, fun x _ => ?_⟩
    obtain ⟨u, i, j, rfl⟩ : ∃ u i j, x = ix3 u i j := ⟨_, _, _, eq_ix3 x⟩
    obtain rfl : u = 0 := Subsingleton.elim _ _
    exact (hv i j).symm ▸ h i j

theorem kDn_apply (i j : Fin 256) : kDn x4 (ix2 i j) = normOf (kd x4) i j := by
  unfold kDn k0_pay31 k0_pay29
  rw [pay30_apply]
  show Ideal.div (shapeCast S256x256 x4 _ (ix2 i j)) _ = _
  rw [shapeCast_1ab_ab_apply]
  rfl

end Density

section Class
variable (x0 : Vec Ideal S1x900x91 .f32)

theorem onehot_apply (k : Fin 91) (l : BitVec 32) :
    FloatOps.sitofp (F := Ideal) .f32 (BitVec.setWidth 32 (IntOp.cmpi .eq (BitVec.ofNat 32 k.val) l)) = if BitVec.ofNat 32 k.val = l then (1 : EReal) else 0 := by
  unfold IntOp.cmpi
  by_cases h : BitVec.ofNat 32 k.val = l
  · simp [h, FloatOps.sitofp]
  · have hb : (BitVec.ofNat 32 k.val == l) = false := beq_eq_false_iff_ne.mpr h
    simp [h, hb, FloatOps.sitofp]

/-- The class cost at a target whose label is a class. -/
theorem pay3_apply (lab : Vec Ideal S1x128 .i32) (q : Fin 900) (g : Fin 128) (l : Fin 91) (hl : lab (ix2 0 g) = BitVec.ofNat 32 l.val) :
    k0_pay3 x0 lab (ix2 q g) = classOf (Ideal.logistic (x0 (ix3 0 q l))) := by
  unfold k0_pay3
  refine (Ideal.matmul_plain_apply (M := 900) (K := 91) (N := 128) _ _ _ _ q g).trans ?_
  have e : ∀ k : Fin 91, (sitofp .f32 (extui 32 (cmpi .eq (iota .tc S91x128 32 [0] iota_S91x128_d0_w32)
      (broadcastTo S91x128 lab broadcasts_S1x128_S91x128)) natLt_1_32) : FVec Ideal S91x128 .f32) (ix2 k g) = if k = l then (1 : EReal) else 0 := by
    intro k
    show FloatOps.sitofp (F := Ideal) .f32 (BitVec.setWidth 32 (IntOp.cmpi .eq (iota .tc S91x128 32 [0] iota_S91x128_d0_w32 (ix2 k g))
      (broadcastTo S91x128 lab broadcasts_S1x128_S91x128 (ix2 k g)))) = _
    rw [iota_single_apply, broadcastTo_1b_ab_apply, hl]
    refine (onehot_apply k _).trans ?_
    have : (BitVec.ofNat 32 k.val = BitVec.ofNat 32 l.val) ↔ k = l := by
      have := k.isLt; have := l.isLt
      rw [← BitVec.toNat_inj, BitVec.toNat_ofNat, BitVec.toNat_ofNat, Nat.mod_eq_of_lt (by omega), Nat.mod_eq_of_lt (by omega), Fin.ext_iff]
    simp only [this]
  rw [Finset.sum_congr rfl fun k _ => congrArg _ (e k)]
  rw [Finset.sum_eq_single l (fun k _ hk => by rw [if_neg hk]; exact mul_zero _) (fun h => absurd (Finset.mem_univ _) h), if_pos rfl]
  show Ideal.ofBits .f32 0x00000000#32 + _ = _
  rw [Ideal.ofBits_zero_f32, zero_add]
  refine (mul_one _).trans ?_
  show classOf (Ideal.logistic (shapeCast S900x91 x0 _ (ix2 q l))) = _
  rw [shapeCast_1ab_ab_apply]

end Class

theorem pay35_apply (a b c : FVec Ideal S900x128 .f32) (d : FVec Ideal S256x256 .f32) (e f : FVec Ideal S900x256 .f32) (q : Fin 900) (g : Fin 128) :
    k0_pay35 a b c d e f (constant S900x256 .f32 0x00000000#32) (ix2 q g)
      = mixOf (b (ix2 q g)) (a (ix2 q g)) (c (ix2 q g))
        (lit 0x00000000#32 - ∑ j : Fin 256, (∑ i : Fin 256, e (ix2 q i) * d (ix2 i j)) * f (ix2 q j)) := by
  unfold k0_pay35
  simp only [addf_apply, mulf_apply, broadcast_apply, broadcastTo_col, subf_apply, shapeCast_a_a1_apply]
  unfold mixOf
  have hs : multiReduction .add [1] S900 (mulf (matmul dot_S900x256_S256x256_S900x256_1_0_0_1_n_n (some .fp32) e d
      (constant S900x256 .f32 0x00000000#32)) f) 0x00000000#32 reduces_S900x256_S900 (.inl rfl) rfl (ix1 q)
      = ∑ j : Fin 256, (∑ i : Fin 256, e (ix2 q i) * d (ix2 i j)) * f (ix2 q j) := by
    refine (rowSum_apply (M := 900) (N := 256) _ _ _ _ _ q).trans (Finset.sum_congr rfl fun j _ => ?_)
    rw [mulf_apply]
    refine congrArg (· * f (ix2 q j)) ?_
    refine (Ideal.matmul_plain_apply (M := 900) (K := 256) (N := 256) _ _ _ _ q j).trans ?_
    show Ideal.ofBits .f32 0x00000000#32 + _ = _
    rw [Ideal.ofBits_zero_f32, zero_add]
  rw [hs]
  rfl

/-- The kernel's cost of a query and a target, in closed form. -/
theorem kCost_apply (x0 : Vec Ideal S1x900x91 .f32) (x1 : Vec Ideal S1x900x4 .f32) (x2 : Vec Ideal S8x128 .i32) (x3 : Vec Ideal S8x4x128 .f32)
    (x4 : Vec Ideal S1x256x256 .f32) (q : Fin 900) (g : Fin 128) (l : Fin 91) (hl : x2 (ix2 0 g) = BitVec.ofNat 32 l.val) :
    kCost x0 x1 x2 x3 x4 (ix2 q g)
      = mixOf (l1Of (kb x1 q) (kt x3 g)) (classOf (Ideal.logistic (x0 (ix3 0 q l))))
        (lit 0x00000000#32 - giouWith (enclSide (xyxy (kb x1 q)) (xyxy (kt x3 g)) 0 2 * enclSide (xyxy (kb x1 q)) (xyxy (kt x3 g)) 1 3)
          (xyxy (kb x1 q)) (xyxy (kt x3 g)))
        (lit 0x00000000#32 - ∑ j : Fin 256, (∑ i : Fin 256, hatOf (pixOf (kb x1 q 1)) i.val * normOf (kd x4) i j) * hatOf (pixOf (kb x1 q 0)) j.val) := by
  unfold kCost
  rw [pay35_apply, kBox_apply, kGiou_apply]
  simp only [pay33_apply, pay34_apply, kDn_apply]
  rw [pay3_apply x0 (labelRow x2) q g l ?_]
  · refine Eq.trans ?_ hl
    unfold labelRow
    rw [View.ld_unit]
    refine congrArg x2 (funext fun a => Fin.ext ?_)
    match a with
    | ⟨0, _⟩ => rfl
    | ⟨1, _⟩ => exact Nat.zero_add _

end Cert.KernelIdeal.Val
end
-- ==== Proof.CostEq.lean ====
/- The cost array: kernel and reference compute the same real number for every query and target. -/
module

public import proofs.«01_k».proof.Proof.RefDensity
public import proofs.«01_k».proof.Proof.RefClass
public import proofs.«01_k».proof.Proof.Geometry
public import proofs.«01_k».proof.Proof.KernelCost
public import proofs.«01_k».proof.Proof.KernelRun

@[expose] public section
set_option maxRecDepth 16384
noncomputable section

namespace Matcher

open Idealize.ShloMosaic Idealize.ShloMosaic.ValueIdx
open Cert.ReferenceIdeal Cert.ReferenceIdeal.Read
open Cert.ReferenceIdeal.Val (Boxes Targets Logits Labels Maps pbox tbox dmap)

/-- What is asked of the arguments, entry by entry. -/
structure Sane (x1 : Boxes) (x2 : Labels) (x3 : Targets) (x4 : Maps) : Prop where
  pred : ∀ b q c, IsReal (x1 (ix3 b q c))
  pred2 : ∀ b q, 0 < x1 (ix3 b q 2)
  pred3 : ∀ b q, 0 < x1 (ix3 b q 3)
  tgt : ∀ g c, IsReal (x3 (ix3 0 g c))
  tgt2 : ∀ g, 0 ≤ x3 (ix3 0 g 2)
  tgt3 : ∀ g, 0 ≤ x3 (ix3 0 g 3)
  label : ∀ g, ∃ l : Fin 91, x2 (ix2 0 g) = BitVec.ofNat 32 l.val
  dens0 : ∀ b i j, 0 ≤ x4 (ix4 b 0 i j)

section
variable (x0 : Logits) (x1 : Boxes) (x2 : Labels) (x3 : Targets) (x4 : Maps) (S : Sane x1 x2 x3 x4) (b : Fin 8) (q : Fin 900) (g : Fin 128)
include S

/-- The reference's cost is a real, and is the kernel's. -/
theorem cost_eq : Cert.KernelIdeal.Val.costOf (F := Ideal) x0 x1 x2 x3 x4 b (ix2 q g) = val_main_v414 (F := Ideal) x0 x1 x2 x3 x4 (ix3 b q g)
    ∧ IsReal (val_main_v414 (F := Ideal) x0 x1 x2 x3 x4 (ix3 b q g)) := by
  obtain ⟨l, hl⟩ := S.label g
  obtain ⟨x, hx⟩ := pix_real _ (S.pred b q 0)
  obtain ⟨y, hy⟩ := pix_real _ (S.pred b q 1)
  have hn := fun i j => norm_real (dmap x4 b) (fun i j => S.dens0 b i j) i j
  choose a ha using hn
  obtain ⟨p, p0, p1, hp⟩ := logistic_real (x0 (ix3 b q l))
  have gr := giou_real (pbox x1 b q) (tbox x3 g) (S.pred b q) (S.tgt g) (S.pred2 b q) (S.pred3 b q) (S.tgt2 g) (S.tgt3 g)
  have cl := clip_encl (pbox x1 b q) (tbox x3 g) (S.pred b q) (S.tgt g) (S.pred2 b q) (S.pred3 b q) (S.tgt2 g) (S.tgt3 g)
  have hR : val_main_v414 (F := Ideal) x0 x1 x2 x3 x4 (ix3 b q g)
      = mixOf (l1Of (pbox x1 b q) (tbox x3 g)) (classOf (Ideal.logistic (x0 (ix3 b q l))))
          (-giouWith (enclSide (xyxy (pbox x1 b q)) (xyxy (tbox x3 g)) 0 2 * enclSide (xyxy (pbox x1 b q)) (xyxy (tbox x3 g)) 1 3)
            (xyxy (pbox x1 b q)) (xyxy (tbox x3 g))) (-((corners a y x : ℝ) : EReal)) := by
    rw [val_main_v414_apply, val_main_v413_apply, val_main_v411_apply, val_main_v410_apply, val_main_v408_apply, val_main_v407_apply,
      val_main_v405_apply, Cert.ReferenceIdeal.Val.v403_read, Cert.ReferenceIdeal.Val.v399_read x1 x4 b q a ha x y hx hy,
      Cert.ReferenceIdeal.Val.v191_read, Cert.ReferenceIdeal.Val.v189_read, Cert.ReferenceIdeal.Val.v187_read x0 x2 g l hl, cl.1, cl.2]
    rfl
  have hK : Cert.KernelIdeal.Val.costOf (F := Ideal) x0 x1 x2 x3 x4 b (ix2 q g)
      = mixOf (l1Of (pbox x1 b q) (tbox x3 g)) (classOf (Ideal.logistic (x0 (ix3 b q l))))
          (lit 0x00000000#32 - giouWith (enclSide (xyxy (pbox x1 b q)) (xyxy (tbox x3 g)) 0 2 * enclSide (xyxy (pbox x1 b q)) (xyxy (tbox x3 g)) 1 3)
            (xyxy (pbox x1 b q)) (xyxy (tbox x3 g)))
          (lit 0x00000000#32 - ∑ j : Fin 256, (∑ i : Fin 256, hatOf (pixOf (x1 (ix3 b q 1))) i.val * normOf (dmap x4 b) i j)
            * hatOf (pixOf (x1 (ix3 b q 0))) j.val) :=
    Cert.KernelIdeal.Val.kCost_apply _ _ _ _ _ q g l hl
  rw [hR, hK, hx, hy, sampled_eq _ a ha, zero_sub', zero_sub']
  refine ⟨rfl, mix_real _ _ _ _ (l1_real _ _ (S.pred b q) (S.tgt g)) ?_ gr.neg (IsReal.coe _).neg⟩
  rw [hp]
  exact classOf_real p p0 p1

/-- The two cost arrays agree. -/
theorem costs_eq : Cert.KernelIdeal.Val.outCost (F := Ideal) x0 x1 x2 x3 x4 = val_main_v414 (F := Ideal) x0 x1 x2 x3 x4 := by
  funext i
  obtain ⟨b, q, g, rfl⟩ : ∃ b q g, i = ix3 b q g := ⟨i 0, i 1, i 2, eq_ix3 i⟩
  refine Eq.trans ?_ (cost_eq x0 x1 x2 x3 x4 S b q g).1
  show shapeCast _ (Cert.KernelIdeal.Val.costOf (F := Ideal) x0 x1 x2 x3 x4 b) _ (ix3 0 q g) = _
  exact shapeCast_ab_1ab_apply _ _ 0 q g

end

end Matcher
end
-- ==== Proof.KernelSel.lean ====
/- The kernel's match stage read entry by entry at the ideal values: each round takes the first least entry of each
   column and strikes it out; a row taken more than once keeps its first cheapest column. -/
module

public import proofs.«01_k».proof.Proof.KernelBlock
public import proofs.«01_k».proof.Proof.Reads

@[expose] public section
set_option maxRecDepth 16384
noncomputable section

namespace Matcher

open Idealize.ShloMosaic Idealize.ShloMosaic.ValueIdx

section Arg
variable {M N : ℕ} [NeZero M] [NeZero N]

/-- The first position of the least value of a column, as the kernel computes it. -/
theorem argmin_axis0 (w : FVec Ideal ⟨2, ![M, N]⟩ .f32) (hM : M < 2 ^ 31)
    (h : (⟨2, ![M, N]⟩ : Shape).Reduces [0] ⟨1, ![N]⟩) (hi : (⟨2, ![M, N]⟩ : Shape).Iotas .tc 32 [0])
    (hc : (⟨1, ![N]⟩ : Shape).ShapeCasts ⟨2, ![1, N]⟩) (hb : (⟨2, ![1, N]⟩ : Shape).Broadcasts ⟨2, ![M, N]⟩)
    (hf : FKind.Formats .f32) (ha : 0x7F800000#32 = FKind.minimumf.neutral .f32 hf) (hn : 2147483647#32 = IKind.minsi.neutral)
    (g : Fin N) :
    multiReductionI .minsi [0] ⟨1, ![N]⟩ (select (cmpf .oeq w (broadcastTo ⟨2, ![M, N]⟩ (shapeCast ⟨2, ![1, N]⟩
        (multiReduction .minimumf [0] ⟨1, ![N]⟩ w 0x7F800000#32 h hf ha) hc) hb))
        (iota .tc ⟨2, ![M, N]⟩ 32 [0] hi) (broadcast ⟨2, ![M, N]⟩ (BitVec.ofNat 32 M))) 2147483647#32 h hn (ix1 g)
      = BitVec.ofNat 32 (pick fun q => w (ix2 q g)).val := by
  rw [multiReductionI_eq_fold]
  refine (h.fold_filter_drop_single _ _ _ _).trans ?_
  refine fold_minsi_eq (fun q => w (ix2 q g)) hM _ fun q => ?_
  show Scalar.select (Ideal.cmp .oeq (w (h.lift (ix1 g) q)) (broadcastTo ⟨2, ![M, N]⟩ _ hb (h.lift (ix1 g) q)))
    (iota .tc ⟨2, ![M, N]⟩ 32 [0] hi (h.lift (ix1 g) q)) (BitVec.ofNat 32 M) = _
  rw [lift_axis0, broadcastTo_1b_ab_apply, shapeCast_a_1a_apply, multiReduction_minimumf_eq_fold,
    h.fold_filter_drop_single, iota_single_apply]
  have e : Finset.univ.fold FloatOps.minimumf (FloatOps.ofBits .f32 0x7F800000#32) (w ∘ h.lift (ix1 g))
      = w (ix2 (pick fun q => w (ix2 q g)) g) := by
    have : (w ∘ h.lift (ix1 g)) = fun q => w (ix2 q g) := funext fun q => congrArg w (lift_axis0 h g q)
    rw [this]
    refine Eq.trans ?_ (fold_min_eq fun q => w (ix2 q g))
    rw [← ofBits_top]; rfl
  rw [e]
  show Scalar.select (BitVec.ofBool (decide (w (ix2 q g) = w (ix2 (pick fun q => w (ix2 q g)) g)))) _ _ = _
  by_cases hq : w (ix2 q g) = w (ix2 (pick fun q => w (ix2 q g)) g)
  · rw [if_pos hq, decide_eq_true hq]; rfl
  · rw [if_neg hq, decide_eq_false hq]; rfl

/-- The first position of the least value of a row, as the kernel computes it. -/
theorem argmin_axis1 (w : FVec Ideal ⟨2, ![M, N]⟩ .f32) (hN : N < 2 ^ 31)
    (h : (⟨2, ![M, N]⟩ : Shape).Reduces [1] ⟨1, ![M]⟩) (hi : (⟨2, ![M, N]⟩ : Shape).Iotas .tc 32 [1])
    (hc : (⟨1, ![M]⟩ : Shape).ShapeCasts ⟨2, ![M, 1]⟩) (hb : (⟨2, ![M, 1]⟩ : Shape).Broadcasts ⟨2, ![M, N]⟩)
    (hf : FKind.Formats .f32) (ha : 0x7F800000#32 = FKind.minimumf.neutral .f32 hf) (hn : 2147483647#32 = IKind.minsi.neutral)
    (q : Fin M) :
    multiReductionI .minsi [1] ⟨1, ![M]⟩ (select (cmpf .oeq w (broadcastTo ⟨2, ![M, N]⟩ (shapeCast ⟨2, ![M, 1]⟩
        (multiReduction .minimumf [1] ⟨1, ![M]⟩ w 0x7F800000#32 h hf ha) hc) hb))
        (iota .tc ⟨2, ![M, N]⟩ 32 [1] hi) (broadcast ⟨2, ![M, N]⟩ (BitVec.ofNat 32 N))) 2147483647#32 h hn (ix1 q)
      = BitVec.ofNat 32 (pick fun g => w (ix2 q g)).val := by
  rw [multiReductionI_eq_fold]
  refine (h.fold_filter_drop_single _ _ _ _).trans ?_
  refine fold_minsi_eq (fun g => w (ix2 q g)) hN _ fun g => ?_
  show Scalar.select (Ideal.cmp .oeq (w (h.lift (ix1 q) g)) (broadcastTo ⟨2, ![M, N]⟩ _ hb (h.lift (ix1 q) g)))
    (iota .tc ⟨2, ![M, N]⟩ 32 [1] hi (h.lift (ix1 q) g)) (BitVec.ofNat 32 N) = _
  rw [lift_axis1, broadcastTo_col, shapeCast_a_a1_apply, multiReduction_minimumf_eq_fold,
    h.fold_filter_drop_single, iota_single_apply]
  have e : Finset.univ.fold FloatOps.minimumf (FloatOps.ofBits .f32 0x7F800000#32) (w ∘ h.lift (ix1 q))
      = w (ix2 q (pick fun g => w (ix2 q g))) := by
    have : (w ∘ h.lift (ix1 q)) = fun g => w (ix2 q g) := funext fun g => congrArg w (lift_axis1 h q g)
    rw [this]
    refine Eq.trans ?_ (fold_min_eq fun g => w (ix2 q g))
    rw [← ofBits_top]; rfl
  rw [e]
  show Scalar.select (BitVec.ofBool (decide (w (ix2 q g) = w (ix2 q (pick fun g => w (ix2 q g)))))) _ _ = _
  by_cases hq : w (ix2 q g) = w (ix2 q (pick fun g => w (ix2 q g)))
  · rw [if_pos hq, decide_eq_true hq]; rfl
  · rw [if_neg hq, decide_eq_false hq]; rfl

end Arg

/-- Two small positions are equal words exactly when they are equal. -/
theorem cmpi_eq_pos {N : ℕ} (hN : N < 2 ^ 32) (a b : Fin N) :
    IntOp.cmpi .eq (BitVec.ofNat 32 a.val) (BitVec.ofNat 32 b.val) = if a = b then 1#1 else 0#1 := by
  have ha := a.isLt
  have hb := b.isLt
  have : (BitVec.ofNat 32 a.val = BitVec.ofNat 32 b.val) ↔ a = b := by
    constructor
    · intro e
      have := congrArg BitVec.toNat e
      simp only [BitVec.toNat_ofNat] at this
      rw [Nat.mod_eq_of_lt (by omega), Nat.mod_eq_of_lt (by omega)] at this
      exact Fin.ext this
    · intro e; rw [e]
  show BitVec.ofBool (decide _) = _
  by_cases h : a = b
  · rw [if_pos h]; simp [this.mpr h]
  · rw [if_neg h]; simp [mt this.mp h]

end Matcher

namespace Cert.KernelIdeal.Val

open Cert.KernelIdeal Cert.KernelIdeal.Gen
open Idealize.ShloMosaic Idealize.ShloMosaic.ValueIdx Matcher

/-- One column of a block. -/
abbrev colOf (w : FVec Ideal S900x128 .f32) (g : Fin 128) : Fin 900 → EReal := fun q => w (ix2 q g)

theorem selOf_apply (w : FVec Ideal S900x128 .f32) (q : Fin 900) (g : Fin 128) :
    selOf w (ix2 q g) = if q = pick (colOf w g) then 1#1 else 0#1 := by
  unfold selOf
  show IntOp.cmpi .eq (iota .tc S900x128 32 [0] iota_S900x128_d0_w32 (ix2 q g)) (broadcastTo S900x128 _ _ (ix2 q g)) = _
  rw [broadcastTo_1b_ab_apply, shapeCast_a_1a_apply]
  rw [iota_single_apply]
  refine (congrArg _ (argmin_axis0 w (by norm_num) _ _ _ _ _ _ _ g)).trans ?_
  exact cmpi_eq_pos (by norm_num) q _

theorem markOf_apply (w : FVec Ideal S900x128 .f32) (g : Fin 128) : colOf (markOf w) g = strike (colOf w g) := by
  funext q
  show Scalar.select (selOf w (ix2 q g)) (Ideal.ofBits .f32 0x7F800000#32) (w (ix2 q g)) = _
  rw [selOf_apply, ofBits_top]
  unfold strike
  split_ifs <;> rfl

/-- `s` rounds of striking out. -/
def marks (w : FVec Ideal S900x128 .f32) : ℕ → FVec Ideal S900x128 .f32
  | 0 => w
  | s + 1 => markOf (marks w s)

theorem marks_apply (w : FVec Ideal S900x128 .f32) (s : ℕ) (g : Fin 128) : colOf (marks w s) g = struck (colOf w g) s := by
  induction s with
  | zero => rfl
  | succ s ih => show colOf (markOf _) g = strike _; rw [markOf_apply, ih]

theorem ofBits_one : Ideal.ofBits .f32 0x3F800000#32 = (1 : EReal) := by
  simp [Ideal.ofBits, Ideal.ieee, -EReal.coe_mul]; norm_num
theorem ofBits_zero : Ideal.ofBits .f32 0x00000000#32 = (0 : EReal) := by
  simp [Ideal.ofBits, Ideal.ieee, -EReal.coe_mul]
theorem ofBits_half : Ideal.ofBits .f32 0x3F000000#32 = (((1 / 2 : ℝ)) : EReal) := by
  simp [Ideal.ofBits, Ideal.ieee, -EReal.coe_mul]; norm_num
theorem ofBits_three_halves : Ideal.ofBits .f32 0x3FC00000#32 = (((3 / 2 : ℝ)) : EReal) := by
  simp [Ideal.ofBits, Ideal.ieee, -EReal.coe_mul]; norm_num

/-- A round adds, at its own picks, the columns that take at least that many. -/
theorem addRound_apply (kvec : IVec S1x128 32) (s : BitVec 32) (mm w : FVec Ideal S900x128 .f32) (q : Fin 900) (g : Fin 128) :
    addRound kvec s mm w (ix2 q g)
      = max (mm (ix2 q g)) (if q = pick (colOf w g) ∧ s.slt (kvec (ix2 0 g)) = true then 1 else 0) := by
  show max (mm (ix2 q g)) (Scalar.select (IntOp.andi (selOf w (ix2 q g)) (broadcastTo S900x128 _ _ (ix2 q g)))
    (Ideal.ofBits .f32 0x3F800000#32) (Ideal.ofBits .f32 0x00000000#32)) = _
  rw [broadcastTo_1b_ab_apply, selOf_apply, ofBits_one, ofBits_zero]
  congr 1
  show Scalar.select (IntOp.andi _ (BitVec.ofBool (s.slt (kvec (ix2 0 g))))) _ _ = _
  cases hs : s.slt (kvec (ix2 0 g)) <;> by_cases hq : q = pick (colOf w g) <;> simp [hq] <;> rfl

/-- Whether row `q` is taken for column `g` in one of the `n` first rounds. -/
def taken (C : FVec Ideal S900x128 .f32) (kvec : IVec S1x128 32) (n : ℕ) (q : Fin 900) (g : Fin 128) : Prop :=
  ∃ s : ℕ, s < n ∧ q = nth (colOf C g) s ∧ (BitVec.ofNat 32 s).slt (kvec (ix2 0 g)) = true

theorem max_indicator (p q : Prop) [Decidable p] [Decidable q] :
    max (if p then (1 : EReal) else 0) (if q then 1 else 0) = if p ∨ q then 1 else 0 := by
  by_cases hp : p <;> by_cases hq : q <;> simp [hp, hq]

open Classical in
theorem addRound_step (C : FVec Ideal S900x128 .f32) (kvec : IVec S1x128 32) (s : ℕ) (mm : FVec Ideal S900x128 .f32)
    (q : Fin 900) (g : Fin 128) (h : mm (ix2 q g) = if taken C kvec s q g then 1 else 0) :
    addRound kvec (BitVec.ofNat 32 s) mm (marks C s) (ix2 q g) = if taken C kvec (s + 1) q g then 1 else 0 := by
  rw [addRound_apply, h, marks_apply]
  have key : taken C kvec (s + 1) q g ↔ taken C kvec s q g ∨
      (q = nth (colOf C g) s ∧ (BitVec.ofNat 32 s).slt (kvec (ix2 0 g)) = true) := by
    constructor
    · rintro ⟨r, hr, h1⟩
      rcases Nat.lt_succ_iff_lt_or_eq.mp hr with h | h
      · exact Or.inl ⟨r, h, h1⟩
      · subst h; exact Or.inr h1
    · rintro (⟨r, hr, h1⟩ | h1)
      · exact ⟨r, by omega, h1⟩
      · exact ⟨s, by omega, h1⟩
  show max _ (if q = nth (colOf C g) s ∧ _ then (1 : EReal) else 0) = _
  refine (max_indicator _ _).trans ?_
  exact if_congr key.symm rfl rfl

open Classical in
theorem roundsOf_apply (C : FVec Ideal S900x128 .f32) (kvec : IVec S1x128 32) (q : Fin 900) (g : Fin 128) :
    roundsOf C kvec (ix2 q g) = if taken C kvec 6 q g then 1 else 0 := by
  unfold roundsOf
  refine addRound_step C kvec 5 _ q g (addRound_step C kvec 4 _ q g (addRound_step C kvec 3 _ q g
    (addRound_step C kvec 2 _ q g (addRound_step C kvec 1 _ q g (addRound_step C kvec 0 _ q g ?_)))))
  rw [if_neg (by rintro ⟨s, hs, _⟩; omega)]
  exact ofBits_zero

open Classical in
/-- The resolved matches, from a 0/1 matching. -/
theorem resolveOf_apply (C mm : FVec Ideal S900x128 .f32) (T : Fin 128 → Prop) (q : Fin 900)
    (h : ∀ g, mm (ix2 q g) = if T g then 1 else 0) (g : Fin 128) :
    resolveOf C mm (ix2 q g) = if (if 1 < (Finset.univ.filter T).card then
      g = pick (fun g' => if T g' then C (ix2 q g') else ⊤) else T g) then 1 else 0 := by
  have hc : ∀ g', Ideal.cmp .ogt (mm (ix2 q g')) (Ideal.ofBits .f32 0x3F000000#32) = if T g' then 1#1 else 0#1 := by
    intro g'
    rw [h, ofBits_half]
    show BitVec.ofBool (decide (_ < _)) = _
    by_cases hT : T g'
    · rw [if_pos hT, if_pos hT, decide_eq_true]; · rfl
      exact_mod_cast (by norm_num : (1/2 : ℝ) < 1)
    · rw [if_neg hT, if_neg hT, decide_eq_false]; · rfl
      rw [not_lt]; exact_mod_cast (by norm_num : (0 : ℝ) ≤ 1/2)
  unfold resolveOf
  dsimp only
  show Scalar.select (broadcastTo S900x128 _ _ (ix2 q g)) (Scalar.select (IntOp.cmpi .eq
    (iota .tc S900x128 32 [1] iota_S900x128_d1_w32 (ix2 q g)) (broadcastTo S900x128 _ _ (ix2 q g)))
    (Ideal.ofBits .f32 0x3F800000#32) (Ideal.ofBits .f32 0x00000000#32)) (mm (ix2 q g)) = _
  rw [broadcastTo_col, broadcastTo_col, shapeCast_a_a1_apply, shapeCast_apply _ _ (ix2 q 0) (ix2 q 0) rfl]
  generalize hmk : (select (cmpf .ogt mm (broadcast S900x128 (Scalar.ofBits .f32 0x3F000000#32))) C
      (broadcast S900x128 (Scalar.ofBits .f32 0x7F800000#32)) : FVec Ideal S900x128 .f32) = masked
  rw [iota_single_apply]
  have e := argmin_axis1 (M := 900) (N := 128) masked (by norm_num) reduces_S900x128_S900 iota_S900x128_d1_w32
    shapeCasts_S900_S900x1 broadcasts_S900x1_S900x128 (.inl rfl) rfl rfl q
  rw [e]
  rw [show (ix2 q g : S900x128.Idx) 1 = g from rfl]
  rw [cmpi_eq_pos (by norm_num) g _]
  subst hmk
  have hm : (fun g' => (select (cmpf .ogt mm (broadcast S900x128 (Scalar.ofBits .f32 0x3F000000#32))) C
      (broadcast S900x128 (Scalar.ofBits .f32 0x7F800000#32)) : FVec Ideal S900x128 .f32) (ix2 q g'))
      = fun g' => if T g' then C (ix2 q g') else (⊤ : EReal) := by
    funext g'
    show Scalar.select (Ideal.cmp .ogt _ _) _ (Ideal.ofBits .f32 0x7F800000#32) = _
    rw [ofBits_top]
    refine (congrArg (fun c => Scalar.select c _ _) (hc g')).trans ?_
    split_ifs <;> rfl
  rw [hm]
  have hsum : (multiReduction .add [1] S900 mm 0x00000000#32 reduces_S900x128_S900 (.inl rfl) rfl : FVec Ideal S900 .f32) (ix1 q)
      = (((Finset.univ.filter T).card : ℝ) : EReal) := by
    exact (rowSum_apply mm 0x00000000#32 reduces_S900x128_S900 (.inl rfl) rfl q).trans (sum_ite_card (fun k : Fin 128 => mm (ix2 q k)) T h)
  show Scalar.select (Ideal.cmp .ogt _ (Ideal.ofBits .f32 0x3FC00000#32)) _ _ = _
  rw [shapeCast_a_a1_apply, hsum, ofBits_three_halves, ofBits_one, ofBits_zero, h]
  have hcard : (decide ((((3 / 2 : ℝ)) : EReal) < (((Finset.univ.filter T).card : ℝ) : EReal))) = decide (1 < (Finset.univ.filter T).card) := by
    rw [decide_eq_decide, EReal.coe_lt_coe_iff]
    constructor
    · intro hh
      by_contra hn
      have : ((Finset.univ.filter T).card : ℝ) ≤ 1 := by exact_mod_cast not_lt.mp hn
      linarith
    · intro hh
      have : (2 : ℝ) ≤ ((Finset.univ.filter T).card : ℝ) := by exact_mod_cast hh
      linarith
  show Scalar.select (BitVec.ofBool (decide _)) _ _ = _
  rw [hcard]
  by_cases h1 : 1 < (Finset.univ.filter T).card
  · rw [decide_eq_true h1]
    simp only [h1, if_true]
    by_cases hg : g = pick (fun g' => if T g' then C (ix2 q g') else (⊤ : EReal))
    · rw [if_pos hg, if_pos hg]; rfl
    · rw [if_neg hg, if_neg hg]; rfl
  · rw [decide_eq_false h1]
    simp only [h1, if_false]
    rfl

end Cert.KernelIdeal.Val
end
-- ==== Proof.MatchEq.lean ====
/- The match array: the queries a target takes, the count of targets a query was given to, and the choice among them agree
   between the kernel's rounds and the reference's sorted order. -/
module

public import proofs.«01_k».proof.Proof.CostEq
public import proofs.«01_k».proof.Proof.KernelSel

@[expose] public section
set_option maxRecDepth 16384
noncomputable section

namespace Matcher

open Idealize.ShloMosaic Idealize.ShloMosaic.ValueIdx
open Cert.ReferenceIdeal Cert.ReferenceIdeal.Gen Cert.ReferenceIdeal.Read
open Cert.ReferenceIdeal.Val (Boxes Targets Logits Labels Maps pbox tbox dmap)
open Cert.KernelIdeal.Val (costOf countOf taken colOf)
open scoped Classical

/-- A disjunction of bits is set when one of them is. -/
theorem fold_ori_eq {N : ℕ} (f : Fin N → BitVec 1) (T : Prop) [Decidable T] (hT : (∃ k, f k = 1#1) ↔ T) :
    Finset.univ.fold IntOp.ori 0#1 f = if T then 1#1 else 0#1 := by
  have key : ∀ s : Finset (Fin N), s.fold IntOp.ori 0#1 f = 1#1 ↔ ∃ k ∈ s, f k = 1#1 := by
    intro s
    induction s using Finset.induction_on with
    | empty => simp
    | insert a s ha ih =>
      rw [Finset.fold_insert ha, Finset.exists_mem_insert, ← ih]
      generalize f a = x
      generalize Finset.fold IntOp.ori 0#1 f s = y
      revert x y; decide
  have hk : Finset.univ.fold IntOp.ori 0#1 f = 1#1 ↔ T := by rw [key, ← hT]; simp
  split_ifs with h
  · exact hk.mpr h
  · exact eq_zero_of_ne_one fun e => h (hk.mp e)

/-- A wrapping sum of widened bits counts them. -/
theorem fold_count_eq {N : ℕ} (hN : N < 2 ^ 32) (T : Fin N → Prop) (f : Fin N → BitVec 32)
    (hf : ∀ k, f k = (if T k then 1#1 else 0#1 : BitVec 1).setWidth 32) :
    Finset.univ.fold IntOp.addi 0#32 f = BitVec.ofNat 32 (Finset.univ.filter T).card := by
  have hs : ∑ k, (f k).toNat = (Finset.univ.filter T).card := by
    rw [Finset.card_filter]
    refine Finset.sum_congr rfl fun k _ => ?_
    rw [hf]
    split_ifs <;> rfl
  have hc : (Finset.univ.filter T).card < 2 ^ 32 := lt_of_le_of_lt (Finset.card_le_univ _) (by simpa using hN)
  apply BitVec.eq_of_toNat_eq
  rw [StableHlo.Predicate.toNat_fold_addi _ _ (by rw [hs]; exact hc), hs, BitVec.toNat_ofNat, Nat.mod_eq_of_lt hc]

theorem ite_eq_one (p : Prop) : (if p then 1#1 else 0#1 : BitVec 1) = 1#1 ↔ p := by split_ifs with h <;> simp [h]

/-- A negated choice between a value and infinity. -/
theorem select_ite {α : Type} (p : Prop) [Decidable p] (x y : α) : Scalar.select (if p then 1#1 else 0#1) x y = if p then x else y := by
  split_ifs <;> rfl

theorem reduces_rounds : S8x900x128x6.Reduces [3] S8x900x128 := by decide
theorem reduces_targets : S8x900x128.Reduces [2] S8x900 := by decide

/-- How many queries a target takes. -/
theorem count_read (x3 : Targets) (b : Fin 8) (g : Fin 128) : val_main_v422 (F := Ideal) x3 (ix2 b g) = countOf (F := Ideal) x3 b (ix2 0 g) := by
  have e416 : val_main_v416 (F := Ideal) x3 (ix2 b g) = x3 (ix3 b g 2) := by
    rw [val_main_v416_apply, val_main_v415_apply]
    exact congrArg x3 (at3 _ _ _ _ (by show (b.val * 128 + g.val) / 128 = b.val; have := g.isLt; omega)
      (by show (b.val * 128 + g.val) / 1 % 128 = g.val; have := g.isLt; omega) rfl)
  have e418 : val_main_v418 (F := Ideal) x3 (ix2 b g) = x3 (ix3 b g 3) := by
    rw [val_main_v418_apply, val_main_v417_apply]
    exact congrArg x3 (at3 _ _ _ _ (by show (b.val * 128 + g.val) / 128 = b.val; have := g.isLt; omega)
      (by show (b.val * 128 + g.val) / 1 % 128 = g.val; have := g.isLt; omega) rfl)
  have hL : val_main_v422 (F := Ideal) x3 (ix2 b g)
      = Scalar.select (Ideal.cmp .olt (val_main_v416 (F := Ideal) x3 (ix2 b g) * val_main_v418 (F := Ideal) x3 (ix2 b g)) (lit 0x3BA3D70A#32)) 6#32 2#32 := rfl
  have hc : ∀ x : (⟨3, ![1, 1, 128]⟩ : Shape).Idx → EReal, ∀ h, shapeCast (⟨2, ![1, 128]⟩ : Shape) x h (ix2 0 g) = x (ix3 0 0 g) :=
    fun x h => shapeCast_1ab_ab_apply x h 0 g
  rw [hL, e416, e418]
  unfold countOf Cert.KernelIdeal.Gen.k0_pay36
  rw [select_apply, cmpf_apply, mulf_apply]
  refine Eq.symm (congrArg (fun z => Scalar.select z _ _) ?_)
  exact congrArg₂ (fun u v => Ideal.cmp .olt (u * v) (lit 0x3BA3D70A#32)) (hc _ _) (hc _ _)

section
variable (x0 : Logits) (x1 : Boxes) (x2 : Labels) (x3 : Targets) (x4 : Maps) (S : Sane x1 x2 x3 x4) (b : Fin 8) (q : Fin 900) (g : Fin 128)
include S

theorem costs_lt (q : Fin 900) : colOf (costOf (F := Ideal) x0 x1 x2 x3 x4 b) g q < ⊤ := by
  show costOf (F := Ideal) x0 x1 x2 x3 x4 b (ix2 q g) < ⊤
  rw [(cost_eq x0 x1 x2 x3 x4 S b q g).1]
  exact (cost_eq x0 x1 x2 x3 x4 S b q g).2.lt_top

/-- The `k`-th cheapest query of a target, in the sorted order. -/
theorem order_read (k : Fin 6) : val_main_indices (F := Ideal) x0 x1 x2 x3 x4 (ix3 b g k)
    = BitVec.ofNat 32 (nth (colOf (costOf (F := Ideal) x0 x1 x2 x3 x4 b) g) k.val).val := by
  unfold val_main_indices
  refine topK_index (A := 8) (B := 128) (N := 900) (K := 6) _ _ b g k _ (fun n => ?_) (by omega) fun r s hr hs => nth_ne _ (costs_lt x0 x1 x2 x3 x4 S b g) s (by omega) r hr
  rw [val_main_v424_apply, val_main_v423_apply, at3 (idx_main_v423 (ix3 b g n)) b n g rfl rfl rfl]
  show -(val_main_v414 (F := Ideal) x0 x1 x2 x3 x4 (ix3 b n g)) = -(costOf (F := Ideal) x0 x1 x2 x3 x4 b (ix2 n g))
  rw [(cost_eq x0 x1 x2 x3 x4 S b n g).1]

/-- Whether a target takes a query. -/
theorem taken_read : val_main_v441 (F := Ideal) x0 x1 x2 x3 x4 (ix3 b q g)
    = if taken (costOf (F := Ideal) x0 x1 x2 x3 x4 b) (countOf (F := Ideal) x3 b) 6 q g then 1#1 else 0#1 := by
  unfold val_main_v441
  refine (Host.reduce_eq_fold_single (a := 3) _ _ _ reducesTo_S8x900x128x6_S8x900x128_d3 reduces_rounds h_S_ (ix3 b q g)).trans ?_
  refine fold_ori_eq (N := 6) _ _ ?_
  have hk : ∀ k : Fin 6, val_main_v440 (F := Ideal) x0 x1 x2 x3 x4 (reduces_rounds.lift (ix3 b q g) k) = 1#1
      ↔ q = nth (colOf (costOf (F := Ideal) x0 x1 x2 x3 x4 b) g) k.val ∧ (BitVec.ofNat 32 k.val).slt (countOf (F := Ideal) x3 b (ix2 0 g)) = true := fun k => by
    rw [show reduces_rounds.lift (ix3 b q g) k = ix4 b q g k from at4 _ _ _ _ _ rfl rfl rfl rfl]
    rw [val_main_v440_apply, val_main_v437_apply, val_main_v435_apply, val_main_v432_apply,
      at3 (idx_main_v432 (idx_main_v435 (ix4 b q g k))) b g k rfl rfl rfl, order_read x0 x1 x2 x3 x4 S b g k,
      val_main_v439_apply, val_main_v438_apply, at3 (idx_main_v438 (idx_main_v439 (ix4 b q g k))) b g k rfl rfl rfl,
      val_main_v431_apply, val_main_v430_apply, val_main_v428_apply, val_main_v427_apply,
      at2 (idx_main_v427 (idx_main_v430 (ix3 b g k))) b g rfl rfl, count_read]
    show IntOp.andi (IntOp.cmpi .eq _ (BitVec.ofNat 32 q.val)) (IntOp.cmpi .slt (BitVec.ofNat 32 k.val) _) = 1#1 ↔ _
    rw [cmpi_eq_pos (N := 900) (by norm_num)]
    show (if _ then 1#1 else 0#1 : BitVec 1) &&& BitVec.ofBool _ = 1#1 ↔ _
    cases (BitVec.ofNat 32 k.val).slt (countOf (F := Ideal) x3 b (ix2 0 g)) <;> split_ifs with h <;> simp [h, eq_comm]
    exact fun e => h e.symm
  unfold taken
  constructor
  · rintro ⟨k, h⟩
    exact ⟨k.val, k.isLt, (hk k).mp h⟩
  · rintro ⟨s, hs, h⟩
    exact ⟨⟨s, hs⟩, (hk ⟨s, hs⟩).mpr h⟩

/-- Whether a query was given to several targets. -/
theorem several_read : val_main_v445 (F := Ideal) x0 x1 x2 x3 x4 (ix2 b q)
    = if 1 < (Finset.univ.filter fun g' => taken (costOf (F := Ideal) x0 x1 x2 x3 x4 b) (countOf (F := Ideal) x3 b) 6 q g').card then 1#1 else 0#1 := by
  have e : val_main_v443 (F := Ideal) x0 x1 x2 x3 x4 (ix2 b q)
      = BitVec.ofNat 32 (Finset.univ.filter fun g' => taken (costOf (F := Ideal) x0 x1 x2 x3 x4 b) (countOf (F := Ideal) x3 b) 6 q g').card := by
    unfold val_main_v443
    refine (Host.reduce_eq_fold_single (a := 2) _ _ _ reducesTo_S8x900x128_S8x900_d2 reduces_targets h_S_ (ix2 b q)).trans ?_
    refine fold_count_eq (N := 128) (by norm_num) _ _ fun k => ?_
    show val_main_v442 (F := Ideal) x0 x1 x2 x3 x4 (reduces_targets.lift (ix2 b q) k) = _
    rw [show reduces_targets.lift (ix2 b q) k = ix3 b q k from at3 _ _ _ _ rfl rfl rfl, val_main_v442_apply, taken_read x0 x1 x2 x3 x4 S b q k]
  have hc : (Finset.univ.filter fun g' => taken (costOf (F := Ideal) x0 x1 x2 x3 x4 b) (countOf (F := Ideal) x3 b) 6 q g').card < 2 ^ 31 :=
    lt_of_le_of_lt (Finset.card_le_univ _) (by simp)
  rw [val_main_v445_apply, e]
  have key := StableHlo.Predicate.slt_ofNat_iff 1 _ (by norm_num) hc
  split_ifs with h
  · exact key.mpr h
  · exact eq_zero_of_ne_one fun h1 => h (key.mp h1)

/-- The cheapest of the targets a query was given to. -/
theorem choice_read : val_main_indices_113 (F := Ideal) x0 x1 x2 x3 x4 (ix3 b q 0)
    = BitVec.ofNat 32 (pick fun g' => if taken (costOf (F := Ideal) x0 x1 x2 x3 x4 b) (countOf (F := Ideal) x3 b) 6 q g'
        then costOf (F := Ideal) x0 x1 x2 x3 x4 b (ix2 q g') else ⊤).val := by
  unfold val_main_indices_113
  refine (topK_index (A := 8) (B := 900) (N := 128) (K := 1) _ _ b q 0 (fun g' => if taken (costOf (F := Ideal) x0 x1 x2 x3 x4 b) (countOf (F := Ideal) x3 b) 6 q g'
        then costOf (F := Ideal) x0 x1 x2 x3 x4 b (ix2 q g') else ⊤) (fun n => ?_) (by omega) fun r s hr hs => by omega).trans rfl
  rw [val_main_v447_apply, val_main_v446_apply, taken_read x0 x1 x2 x3 x4 S b q n]
  show -(Scalar.select _ _ (lit 0x7F800000#32)) = _
  rw [select_ite, (cost_eq x0 x1 x2 x3 x4 S b q n).1, show lit 0x7F800000#32 = (⊤ : EReal) from ofBits_top]

/-- The reference's match. -/
theorem match_read : val_main_v454 (F := Ideal) x0 x1 x2 x3 x4 (ix3 b q g)
    = if (if 1 < (Finset.univ.filter fun g' => taken (costOf (F := Ideal) x0 x1 x2 x3 x4 b) (countOf (F := Ideal) x3 b) 6 q g').card
        then g = pick (fun g' => if taken (costOf (F := Ideal) x0 x1 x2 x3 x4 b) (countOf (F := Ideal) x3 b) 6 q g'
          then costOf (F := Ideal) x0 x1 x2 x3 x4 b (ix2 q g') else ⊤)
        else taken (costOf (F := Ideal) x0 x1 x2 x3 x4 b) (countOf (F := Ideal) x3 b) 6 q g) then 1#1 else 0#1 := by
  rw [val_main_v454_apply, val_main_call16_v0_apply, val_main_v453_apply,
    at2 (idx_main_v453 (idx_main_call16_v0 (ix3 b q g))) b q rfl rfl, several_read x0 x1 x2 x3 x4 S b q, select_ite,
    taken_read x0 x1 x2 x3 x4 S b q g, val_main_v452_apply, val_main_v451_apply, at3 (idx_main_v451 (ix3 b q g)) b q 0 rfl rfl rfl,
    choice_read x0 x1 x2 x3 x4 S b q]
  rw [show val_main_v450 (F := Ideal) (ix3 b q g) = BitVec.ofNat 32 g.val from rfl, cmpi_eq_pos (N := 128) (by norm_num)]
  split_ifs <;> rfl

omit S in
/-- The kernel's match. -/
theorem match_kernel : Cert.KernelIdeal.Val.outMatch (F := Ideal) x0 x1 x2 x3 x4 (ix3 b q g)
    = if (if 1 < (Finset.univ.filter fun g' => taken (costOf (F := Ideal) x0 x1 x2 x3 x4 b) (countOf (F := Ideal) x3 b) 6 q g').card
        then g = pick (fun g' => if taken (costOf (F := Ideal) x0 x1 x2 x3 x4 b) (countOf (F := Ideal) x3 b) 6 q g'
          then costOf (F := Ideal) x0 x1 x2 x3 x4 b (ix2 q g') else ⊤)
        else taken (costOf (F := Ideal) x0 x1 x2 x3 x4 b) (countOf (F := Ideal) x3 b) 6 q g) then 1#1 else 0#1 := by
  have hr := Cert.KernelIdeal.Val.resolveOf_apply (costOf (F := Ideal) x0 x1 x2 x3 x4 b)
    (Cert.KernelIdeal.Val.roundsOf (costOf (F := Ideal) x0 x1 x2 x3 x4 b) (countOf (F := Ideal) x3 b)) _ q
    (fun g' => Cert.KernelIdeal.Val.roundsOf_apply _ (countOf (F := Ideal) x3 b) q g') g
  have hw : Cert.KernelIdeal.Val.outWord (F := Ideal) x0 x1 x2 x3 x4 (ix3 b q g)
      = (Ideal.cmp .ogt (Cert.KernelIdeal.Val.resolveOf (costOf (F := Ideal) x0 x1 x2 x3 x4 b)
          (Cert.KernelIdeal.Val.roundsOf (costOf (F := Ideal) x0 x1 x2 x3 x4 b) (countOf (F := Ideal) x3 b)) (ix2 q g)) (lit 0x3F000000#32)).setWidth 32 := by
    unfold Cert.KernelIdeal.Val.outWord Cert.KernelIdeal.Gen.k0_pay1
    exact (shapeCast_ab_1ab_apply _ _ 0 q g).trans rfl
  show IntOp.cmpi .ne (Cert.KernelIdeal.Val.outWord (F := Ideal) x0 x1 x2 x3 x4 (ix3 b q g)) 0#32 = _
  rw [hw, hr, lit_half]
  have h1 : Ideal.cmp .ogt (1 : EReal) (((1 / 2 : ℝ) : EReal)) = 1#1 := by
    refine (congrArg BitVec.ofBool (decide_eq_true ?_)).trans rfl
    show (((1 / 2 : ℝ) : EReal)) < ((1 : ℝ) : EReal)
    exact EReal.coe_lt_coe_iff.mpr (by norm_num)
  have h0 : Ideal.cmp .ogt (0 : EReal) (((1 / 2 : ℝ) : EReal)) = 0#1 := by
    refine (congrArg BitVec.ofBool (decide_eq_false ?_)).trans rfl
    show ¬ (((1 / 2 : ℝ) : EReal)) < ((0 : ℝ) : EReal)
    rw [EReal.coe_lt_coe_iff]; norm_num
  by_cases hP : (if 1 < (Finset.univ.filter fun g' => taken (costOf (F := Ideal) x0 x1 x2 x3 x4 b) (countOf (F := Ideal) x3 b) 6 q g').card
        then g = pick (fun g' => if taken (costOf (F := Ideal) x0 x1 x2 x3 x4 b) (countOf (F := Ideal) x3 b) 6 q g'
          then costOf (F := Ideal) x0 x1 x2 x3 x4 b (ix2 q g') else ⊤)
        else taken (costOf (F := Ideal) x0 x1 x2 x3 x4 b) (countOf (F := Ideal) x3 b) 6 q g)
  · rw [if_pos hP, if_pos hP, h1]; rfl
  · rw [if_neg hP, if_neg hP, h0]; rfl

/-- The two match arrays agree. -/
theorem matches_eq : Cert.KernelIdeal.Val.outMatch (F := Ideal) x0 x1 x2 x3 x4 = val_main_v454 (F := Ideal) x0 x1 x2 x3 x4 := by
  funext i
  obtain ⟨b, q, g, rfl⟩ : ∃ b q g, i = ix3 b q g := ⟨i 0, i 1, i 2, eq_ix3 i⟩
  rw [match_kernel, match_read x0 x1 x2 x3 x4 S]

end

end Matcher
end
-- ==== Proof.Pre.lean ====
/- The stated condition on the arguments, read entry by entry. -/
module

public import proofs.«01_k».proof.Defs
public import proofs.«01_k».proof.Proof.CostEq

@[expose] public section
set_option maxRecDepth 16384
noncomputable section

namespace Matcher

open Idealize.ShloMosaic Idealize.ShloMosaic.ValueIdx
open Cert.ReferenceIdeal.Val (Boxes Targets Logits Labels Maps)

/-- The side conditions of the stated condition's operations. -/
theorem preFacts : Cert.Pre_sane_inputs.Facts where
  slices_S8x128x4_S1x128x4_0_0_0 := by decide
  slices_S8x128_S1x128_0_0 := by decide
  bcast_S_S8x900x4 := by decide
  slices_S8x900x4_S8x900x2_0_0_2 := by decide
  bcast_S_S8x900x2 := by decide
  bcast_S_S1x128x4 := by decide
  slices_S1x128x4_S1x128x2_0_0_2 := by decide
  bcast_S_S1x128x2 := by decide
  bcast_S_S1x128 := by decide
  bcast_S_S8x1x256x256 := by decide

section
variable {α : Type} {A B C A' B' C' : ℕ}

theorem slice3_apply (o : Fin 3 → ℕ) (x : (⟨3, ![A, B, C]⟩ : Shape).Idx → α) (h : (⟨3, ![A, B, C]⟩ : Shape).Slices o ⟨3, ![A', B', C']⟩)
    (a : Fin A') (b : Fin B') (c : Fin C') (a' : Fin A) (b' : Fin B) (c' : Fin C)
    (ha : a'.val = o 0 + a.val) (hb : b'.val = o 1 + b.val) (hc : c'.val = o 2 + c.val) :
    extractStridedSlice ⟨3, ![A', B', C']⟩ o x h (ix3 a b c) = x (ix3 a' b' c') :=
  congrArg x (at3 _ _ _ _ ha.symm hb.symm hc.symm)

theorem slice2_apply (o : Fin 2 → ℕ) (x : (⟨2, ![A, B]⟩ : Shape).Idx → α) (h : (⟨2, ![A, B]⟩ : Shape).Slices o ⟨2, ![A', B']⟩)
    (a : Fin A') (b : Fin B') (a' : Fin A) (b' : Fin B) (ha : a'.val = o 0 + a.val) (hb : b'.val = o 1 + b.val) :
    extractStridedSlice ⟨2, ![A', B']⟩ o x h (ix2 a b) = x (ix2 a' b') :=
  congrArg x (at2 _ _ _ ha.symm hb.symm)

end

theorem lit_inf : lit 0x7F800000#32 = (⊤ : EReal) := ofBits_top

theorem of_olt (x y : EReal) (h : Ideal.cmp .olt x y = 1#1) : x < y :=
  of_decide_eq_true ((StableHlo.Predicate.ofBool_eq_one_iff _).mp h)
theorem of_ogt (x y : EReal) (h : Ideal.cmp .ogt x y = 1#1) : y < x :=
  of_decide_eq_true ((StableHlo.Predicate.ofBool_eq_one_iff _).mp h)
theorem of_oge (x y : EReal) (h : Ideal.cmp .oge x y = 1#1) : y ≤ x :=
  of_decide_eq_true ((StableHlo.Predicate.ofBool_eq_one_iff _).mp h)

/-- A word between 0 and 90 is a class number. -/
theorem label_of (w : BitVec 32) (h0 : IntOp.cmpi .sge w 0#32 = 1#1) (h1 : IntOp.cmpi .slt w 91#32 = 1#1) :
    ∃ l : Fin 91, w = BitVec.ofNat 32 l.val := by
  have e0 : (0#32).sle w = true := (StableHlo.Predicate.ofBool_eq_one_iff _).mp h0
  have e1 : w.slt 91#32 = true := (StableHlo.Predicate.ofBool_eq_one_iff _).mp h1
  rw [BitVec.sle_iff_toInt_le] at e0
  rw [BitVec.slt_iff_toInt_lt] at e1
  have z : (0#32 : BitVec 32).toInt = 0 := by decide
  have n : (91#32 : BitVec 32).toInt = 91 := by decide
  rw [z] at e0
  rw [n] at e1
  refine ⟨⟨w.toInt.toNat, by omega⟩, BitVec.eq_of_toInt_eq ?_⟩
  rw [StableHlo.Predicate.toInt_ofNat_small w.toInt.toNat (by omega)]
  omega

/-- The stated condition gives what the proofs ask, entry by entry. -/
theorem sane_of [Cert.Pre_sane_inputs.Facts] (x0 : Logits) (x1 : Boxes) (x2 : Labels) (x3 : Targets) (x4 : Maps)
    (h : (Cert.Pre_sane_inputs.fn (F := Ideal) x0 x1 x2 x3 x4).1 = (fun _ => 1#1)
      ∧ (Cert.Pre_sane_inputs.fn (F := Ideal) x0 x1 x2 x3 x4).2.1 = (fun _ => 1#1)
      ∧ (Cert.Pre_sane_inputs.fn (F := Ideal) x0 x1 x2 x3 x4).2.2.1 = (fun _ => 1#1)
      ∧ (Cert.Pre_sane_inputs.fn (F := Ideal) x0 x1 x2 x3 x4).2.2.2.1 = (fun _ => 1#1)
      ∧ (Cert.Pre_sane_inputs.fn (F := Ideal) x0 x1 x2 x3 x4).2.2.2.2.1 = (fun _ => 1#1)
      ∧ (Cert.Pre_sane_inputs.fn (F := Ideal) x0 x1 x2 x3 x4).2.2.2.2.2.1 = (fun _ => 1#1)
      ∧ (Cert.Pre_sane_inputs.fn (F := Ideal) x0 x1 x2 x3 x4).2.2.2.2.2.2 = (fun _ => 1#1)) : Sane x1 x2 x3 x4 := by
  obtain ⟨hp, hp2, ht, ht2, hl0, hl1, hd0⟩ := h
  have box : ∀ g c, extractStridedSlice Cert.Pre_sane_inputs.S1x128x4 ![0, 0, 0] x3
      Cert.Pre_sane_inputs.Facts.slices_S8x128x4_S1x128x4_0_0_0 (ix3 0 g c) = x3 (ix3 0 g c) := fun g c =>
    slice3_apply (A := 8) (B := 128) (C := 4) (A' := 1) (B' := 128) (C' := 4) _ x3 _ 0 g c 0 g c rfl (Nat.zero_add _).symm (Nat.zero_add _).symm
  have lab : ∀ g, extractStridedSlice Cert.Pre_sane_inputs.S1x128 ![0, 0] x2
      Cert.Pre_sane_inputs.Facts.slices_S8x128_S1x128_0_0 (ix2 0 g) = x2 (ix2 0 g) := fun g =>
    slice2_apply (A := 8) (B := 128) (A' := 1) (B' := 128) _ x2 _ 0 g 0 g rfl (Nat.zero_add _).symm
  have side : ∀ b q (c : Fin 2) (c' : Fin 4), c'.val = 2 + c.val → (0 : EReal) < x1 (ix3 b q c') := fun b q c c' hc => by
    have k := of_ogt _ (lit 0x00000000#32) (congrFun hp2 (ix3 b q c))
    have e := slice3_apply (A := 8) (B := 900) (C := 4) (A' := 8) (B' := 900) (C' := 2) ![0, 0, 2] x1
      Cert.Pre_sane_inputs.Facts.slices_S8x900x4_S8x900x2_0_0_2 b q c b q c' (Nat.zero_add _).symm (Nat.zero_add _).symm hc
    rw [lit_zero] at k
    exact lt_of_lt_of_eq k e
  have tside : ∀ g (c : Fin 2) (c' : Fin 4), c'.val = 2 + c.val → (0 : EReal) ≤ x3 (ix3 0 g c') := fun g c c' hc => by
    have k := of_oge _ (lit 0x00000000#32) (congrFun ht2 (ix3 0 g c))
    have e := slice3_apply (A := 1) (B := 128) (C := 4) (A' := 1) (B' := 128) (C' := 2) ![0, 0, 2]
      (extractStridedSlice Cert.Pre_sane_inputs.S1x128x4 ![0, 0, 0] x3 Cert.Pre_sane_inputs.Facts.slices_S8x128x4_S1x128x4_0_0_0)
      Cert.Pre_sane_inputs.Facts.slices_S1x128x4_S1x128x2_0_0_2 0 g c 0 g c' rfl (Nat.zero_add _).symm hc
    rw [lit_zero] at k
    exact le_of_le_of_eq k (e.trans (box g c'))
  refine ⟨fun b q c => ?_, fun b q => side b q 0 2 rfl, fun b q => side b q 1 3 rfl, fun g c => ?_, fun g => tside g 0 2 rfl,
    fun g => tside g 1 3 rfl, fun g => ?_, fun b i j => ?_⟩
  · have k := of_olt (absE (x1 (ix3 b q c))) (lit 0x7F800000#32) (congrFun hp (ix3 b q c))
    exact IsReal.of_abs_lt (lit_inf ▸ k)
  · have k := of_olt _ (lit 0x7F800000#32) (congrFun ht (ix3 0 g c))
    exact IsReal.of_abs_lt (lt_of_eq_of_lt (congrArg absE (box g c).symm) (lit_inf ▸ k))
  · rw [← lab g]
    exact label_of _ (congrFun hl0 (ix2 0 g)) (congrFun hl1 (ix2 0 g))
  · have k := of_oge (x4 (ix4 b 0 i j)) (lit 0x00000000#32) (congrFun hd0 (ix4 b 0 i j))
    rw [lit_zero] at k
    exact k

end Matcher
end
-- ==== Proof.lean ====
/- The claims: the three programs run and leave their arguments alone, the idealization is sanctioned, and over extended reals the
   kernel's matches and costs are the reference's. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.MatchEq
public import proofs.«01_k».proof.Proof.Pre
public import Idealize.ShloMosaic.Lib.Quiescent
public import Idealize.ShloMosaic.Adequacy
public import Idealize.ShloMosaic.Init

@[expose] public section

noncomputable section

namespace Cert.Proof

open Idealize.ShloMosaic Idealize.SL.Sem Matcher

/-- The reference leaves its arguments alone and every semaphore at zero. -/
theorem frameReference : quiescent_ReferenceIdeal (hReferenceIdeal := Cert.ReferenceIdeal.Gen.facts) := fun m ρ _ =>
  (θ_run _ _ _).mono (fun r h => ⟨fun c => (h c).2.2, sem_eq_zero_of_no_sems (by rfl) r.2⟩) (Cert.ReferenceIdeal.Value.run m ρ)

/-- Kernel and reference end with the same matches and the same costs. -/
theorem sameResults : algebraic_KernelIdeal_ReferenceIdeal_pre_sane_inputs (hKernelIdeal := Cert.KernelIdeal.Gen.facts)
    (hReferenceIdeal := Cert.ReferenceIdeal.Gen.facts) (hPre_sane_inputs := preFacts) := by
  intro m g m' g' hpre harg
  refine ⟨fun c => Cert.KernelIdeal.Val.matchArr m c, fun c => Cert.KernelIdeal.Val.costArr m c, Cert.KernelIdeal.Val.run m g,
    (θ_run _ _ _).mono (fun r h c => ?_) (Cert.ReferenceIdeal.Value.run m' g')⟩
  obtain ⟨h0, h1, hrest⟩ := h c
  obtain ⟨a0, a1, a2, a3, a4⟩ := harg c
  have S := @sane_of preFacts _ _ _ _ _ (hpre c)
  refine ⟨?_, ?_, hrest⟩
  · refine h0.trans ((Cert.ReferenceIdeal.Read.val_main_v454_eq _).trans ?_)
    refine Eq.trans ?_ (matches_eq _ _ _ _ _ S).symm
    rw [← a0, ← a1, ← a2, ← a3, ← a4]
  · refine h1.trans ((Cert.ReferenceIdeal.Read.val_main_v414_eq _).trans ?_)
    refine Eq.trans ?_ (costs_eq _ _ _ _ _ S).symm
    rw [← a0, ← a1, ← a2, ← a3, ← a4]

theorem claim : Cert.Claim := ⟨Cert.Kernel.Gen.facts, Cert.KernelIdeal.Gen.facts, Cert.ReferenceIdeal.Gen.facts, preFacts,
  fun m ρ _ => Cert.Kernel.Gen.frame m ρ, fun m ρ _ => Cert.KernelIdeal.Gen.frame m ρ, fun m ρ _ => Cert.KernelIdeal.Gen.frame m ρ,
  frameReference, fun m ρ _ => frameReference m ρ trivial, trivial, sameResults⟩

end Cert.Proof

end
